-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_codes_below_8 [hPre_codes_below_8 : Cert.Pre_codes_below_8.Facts] (m : (ℓ : Loc Cert.KernelIdeal.nD Cert.KernelIdeal.τ Cert.KernelIdeal.sig) → Buf (Elt Ideal) ℓ) : Prop :=
  ∀ c : Dev Cert.KernelIdeal.nD,
    (Cert.Pre_codes_below_8.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_codes_below_8 [hPre_codes_below_8 : Cert.Pre_codes_below_8.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_codes_below_8.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ r.2.sem = fun _ => 0)

def quiescent_KernelIdeal_pre_codes_below_8 [hKernelIdeal : Cert.KernelIdeal.Facts] [hPre_codes_below_8 : Cert.Pre_codes_below_8.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_codes_below_8 m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))
      ∧ r.2.sem = fun _ => 0)

def quiescent_ReferenceIdeal_pre_codes_below_8 [hReferenceIdeal : Cert.ReferenceIdeal.Facts] [hPre_codes_below_8 : Cert.Pre_codes_below_8.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_codes_below_8 m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))
      ∧ r.2.sem = fun _ => 0)

def preserves_Kernel_KernelIdeal : Prop :=
  True

def algebraic_KernelIdeal_ReferenceIdeal_pre_codes_below_8 [hKernelIdeal : Cert.KernelIdeal.Facts] [hReferenceIdeal : Cert.ReferenceIdeal.Facts] [hPre_codes_below_8 : Cert.Pre_codes_below_8.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_codes_below_8 m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v28)) (v1 : (c : Dev Cert.KernelIdeal.nD) → Buf (Elt Ideal) ((c.tc : Thread Cert.KernelIdeal.nD Cert.KernelIdeal.τ).loc Cert.KernelIdeal.main_v29)) (v2 : (c : Dev Cert.KernelIdeal.nD) → Buf (Elt Ideal) ((c.tc : Thread Cert.KernelIdeal.nD Cert.KernelIdeal.τ).loc Cert.KernelIdeal.main_v27_0)) (v3 : (c : Dev Cert.KernelIdeal.nD) → Buf (Elt Ideal) ((c.tc : Thread Cert.KernelIdeal.nD Cert.KernelIdeal.τ).loc Cert.KernelIdeal.main_v27_1)) (v4 : (c : Dev Cert.KernelIdeal.nD) → Buf (Elt Ideal) ((c.tc : Thread Cert.KernelIdeal.nD Cert.KernelIdeal.τ).loc Cert.KernelIdeal.main_v30)) (v5 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_v29) = v1 c
          ∧ r.2.mem ((c.tc : Thread Cert.KernelIdeal.nD Cert.KernelIdeal.τ).loc Cert.KernelIdeal.main_v27_0) = v2 c
          ∧ r.2.mem ((c.tc : Thread Cert.KernelIdeal.nD Cert.KernelIdeal.τ).loc Cert.KernelIdeal.main_v27_1) = v3 c
          ∧ r.2.mem ((c.tc : Thread Cert.KernelIdeal.nD Cert.KernelIdeal.τ).loc Cert.KernelIdeal.main_v30) = v4 c
          ∧ r.2.mem ((c.tc : Thread Cert.KernelIdeal.nD Cert.KernelIdeal.τ).loc Cert.KernelIdeal.main_v31) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_v44) = v2 c
          ∧ r.2.mem ((c.tc : Thread Cert.ReferenceIdeal.nD Cert.ReferenceIdeal.τ).loc Cert.ReferenceIdeal.main_v48) = v3 c
          ∧ r.2.mem ((c.tc : Thread Cert.ReferenceIdeal.nD Cert.ReferenceIdeal.τ).loc Cert.ReferenceIdeal.main_v52) = v4 c
          ∧ r.2.mem ((c.tc : Thread Cert.ReferenceIdeal.nD Cert.ReferenceIdeal.τ).loc Cert.ReferenceIdeal.main_v56) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_codes_below_8 : Cert.Pre_codes_below_8.Facts),
    quiescent_Kernel (hKernel := hKernel)
    ∧ quiescent_KernelIdeal (hKernelIdeal := hKernelIdeal)
    ∧ quiescent_KernelIdeal_pre_codes_below_8 (hKernelIdeal := hKernelIdeal) (hPre_codes_below_8 := hPre_codes_below_8)
    ∧ quiescent_ReferenceIdeal (hReferenceIdeal := hReferenceIdeal)
    ∧ quiescent_ReferenceIdeal_pre_codes_below_8 (hReferenceIdeal := hReferenceIdeal) (hPre_codes_below_8 := hPre_codes_below_8)
    ∧ preserves_Kernel_KernelIdeal
    ∧ algebraic_KernelIdeal_ReferenceIdeal_pre_codes_below_8 (hKernelIdeal := hKernelIdeal) (hReferenceIdeal := hReferenceIdeal) (hPre_codes_below_8 := hPre_codes_below_8)
-- ==== Pre_codes_below_8.lean ====
abbrev S16384x10x56 : Shape := ⟨3, ![16384, 10, 56]⟩
abbrev S16384x10x7 : Shape := ⟨3, ![16384, 10, 7]⟩
abbrev S400x64 : Shape := ⟨2, ![400, 64]⟩
abbrev S8x4 : Shape := ⟨2, ![8, 4]⟩
abbrev S26x12 : Shape := ⟨2, ![26, 12]⟩
abbrev S32x8 : Shape := ⟨2, ![32, 8]⟩
abbrev S2240x512 : Shape := ⟨2, ![2240, 512]⟩
abbrev S512 : Shape := ⟨1, ![512]⟩
abbrev S512x256 : Shape := ⟨2, ![512, 256]⟩
abbrev S256 : Shape := ⟨1, ![256]⟩
abbrev S256x8 : Shape := ⟨2, ![256, 8]⟩
abbrev S8 : Shape := ⟨1, ![8]⟩
abbrev S256x6 : Shape := ⟨2, ![256, 6]⟩
abbrev S6 : Shape := ⟨1, ![6]⟩
abbrev S256x400 : Shape := ⟨2, ![256, 400]⟩
abbrev S400 : Shape := ⟨1, ![400]⟩
abbrev S_ : Shape := ⟨0, ![]⟩

class Facts : Prop where
  bcast_S_S16384x10x7 : S_.BroadcastsInDim S16384x10x7 (![] : Fin 0 → Fin S16384x10x7.rank)

variable [Facts]

def fn {F : FTy → Type} [FloatOps F] (main_arg0 : FVec F S16384x10x56 .f32) (main_arg1 : IVec S16384x10x7 32) (main_arg2 : FVec F S400x64 .f32) (main_arg3 : FVec F S8x4 .f32) (main_arg4 : FVec F S26x12 .f32) (main_arg5 : FVec F S32x8 .f32) (main_arg6 : FVec F S2240x512 .f32) (main_arg7 : FVec F S512 .f32) (main_arg8 : FVec F S512x256 .f32) (main_arg9 : FVec F S256 .f32) (main_arg10 : FVec F S256x8 .f32) (main_arg11 : FVec F S8 .f32) (main_arg12 : FVec F S256x6 .f32) (main_arg13 : FVec F S6 .f32) (main_arg14 : FVec F S256x400 .f32) (main_arg15 : FVec F S400 .f32) (main_arg16 : FVec F S256x400 .f32) (main_arg17 : FVec F S400 .f32) (main_arg18 : FVec F S256x8 .f32) (main_arg19 : FVec F S8 .f32) (main_arg20 : FVec F S256x8 .f32) (main_arg21 : FVec F S8 .f32) : IVec S16384x10x7 1 :=
  let main_c : IVec S_ 32 := constantI S_ 32 0#32
  let main_v0 : IVec S16384x10x7 32 := broadcastInDim S16384x10x7 ![] bcast_S_S16384x10x7 main_c
  let main_v1 : IVec S16384x10x7 1 := cmpi .sge main_arg1 main_v0
  let main_c_0 : IVec S_ 32 := constantI S_ 32 8#32
  let main_v2 : IVec S16384x10x7 32 := broadcastInDim S16384x10x7 ![] bcast_S_S16384x10x7 main_c_0
  let main_v3 : IVec S16384x10x7 1 := cmpi .slt main_arg1 main_v2
  let main_v4 : IVec S16384x10x7 1 := andi main_v1 main_v3
  main_v4
-- ==== Kernel.lean ====
abbrev S16384x10x56 : Shape := ⟨3, ![16384, 10, 56]⟩
abbrev S16384x10x7 : Shape := ⟨3, ![16384, 10, 7]⟩
abbrev S400x64 : Shape := ⟨2, ![400, 64]⟩
abbrev S8x4 : Shape := ⟨2, ![8, 4]⟩
abbrev S26x12 : Shape := ⟨2, ![26, 12]⟩
abbrev S32x8 : Shape := ⟨2, ![32, 8]⟩
abbrev S2240x512 : Shape := ⟨2, ![2240, 512]⟩
abbrev S512 : Shape := ⟨1, ![512]⟩
abbrev S512x256 : Shape := ⟨2, ![512, 256]⟩
abbrev S256 : Shape := ⟨1, ![256]⟩
abbrev S256x8 : Shape := ⟨2, ![256, 8]⟩
abbrev S8 : Shape := ⟨1, ![8]⟩
abbrev S256x6 : Shape := ⟨2, ![256, 6]⟩
abbrev S6 : Shape := ⟨1, ![6]⟩
abbrev S256x400 : Shape := ⟨2, ![256, 400]⟩
abbrev S400 : Shape := ⟨1, ![400]⟩
abbrev S16384x560 : Shape := ⟨2, ![16384, 560]⟩
abbrev S16384x70 : Shape := ⟨2, ![16384, 70]⟩
abbrev S70 : Shape := ⟨1, ![70]⟩
abbrev S70x1 : Shape := ⟨2, ![70, 1]⟩
abbrev S560 : Shape := ⟨1, ![560]⟩
abbrev S1x560 : Shape := ⟨2, ![1, 560]⟩
abbrev S_ : Shape := ⟨0, ![]⟩
abbrev S70x560 : Shape := ⟨2, ![70, 560]⟩
abbrev S1120x512 : Shape := ⟨2, ![1120, 512]⟩
abbrev S56x168 : Shape := ⟨2, ![56, 168]⟩
abbrev S8x64 : Shape := ⟨2, ![8, 64]⟩
abbrev S8x12 : Shape := ⟨2, ![8, 12]⟩
abbrev S8x8 : Shape := ⟨2, ![8, 8]⟩
abbrev S56x512 : Shape := ⟨2, ![56, 512]⟩
abbrev S168x512 : Shape := ⟨2, ![168, 512]⟩
abbrev S256x30 : Shape := ⟨2, ![256, 30]⟩
abbrev S1598 : Shape := ⟨1, ![1598]⟩
abbrev S1x1598 : Shape := ⟨2, ![1, 1598]⟩
abbrev S16384x400 : Shape := ⟨2, ![16384, 400]⟩
abbrev S16384x30 : Shape := ⟨2, ![16384, 30]⟩
abbrev S2048x560 : Shape := ⟨2, ![2048, 560]⟩
abbrev S2048x70 : Shape := ⟨2, ![2048, 70]⟩
abbrev S2048x400 : Shape := ⟨2, ![2048, 400]⟩
abbrev S2048x30 : Shape := ⟨2, ![2048, 30]⟩
abbrev S560x512 : Shape := ⟨2, ![560, 512]⟩
abbrev S2048x512 : Shape := ⟨2, ![2048, 512]⟩
abbrev S1x512 : Shape := ⟨2, ![1, 512]⟩
abbrev S2048x256 : Shape := ⟨2, ![2048, 256]⟩
abbrev S1x256 : Shape := ⟨2, ![1, 256]⟩
abbrev S1x400 : Shape := ⟨2, ![1, 400]⟩
abbrev S1x30 : Shape := ⟨2, ![1, 30]⟩
abbrev S16384x8 : Shape := ⟨2, ![16384, 8]⟩
abbrev S16384x6 : Shape := ⟨2, ![16384, 6]⟩

abbrev nBuf : Space → Nat
  | .hbm => 149
  | .vmem => 24
  | .smem => 0
  | _ => 0

abbrev hbmTy0_0 (i : Nat) : BufTy := match i % 128 with
  | 0 => ⟨S16384x10x56, .f32⟩
  | 1 => ⟨S16384x10x7, .i32⟩
  | 2 => ⟨S400x64, .f32⟩
  | 3 => ⟨S8x4, .f32⟩
  | 4 => ⟨S26x12, .f32⟩
  | 5 => ⟨S32x8, .f32⟩
  | 6 => ⟨S2240x512, .f32⟩
  | 7 => ⟨S512, .f32⟩
  | 8 => ⟨S512x256, .f32⟩
  | 9 => ⟨S256, .f32⟩
  | 10 => ⟨S256x8, .f32⟩
  | 11 => ⟨S8, .f32⟩
  | 12 => ⟨S256x6, .f32⟩
  | 13 => ⟨S6, .f32⟩
  | 14 => ⟨S256x400, .f32⟩
  | 15 => ⟨S400, .f32⟩
  | 16 => ⟨S256x400, .f32⟩
  | 17 => ⟨S400, .f32⟩
  | 18 => ⟨S256x8, .f32⟩
  | 19 => ⟨S8, .f32⟩
  | 20 => ⟨S256x8, .f32⟩
  | 21 => ⟨S8, .f32⟩
  | 22 => ⟨S16384x560, .f32⟩
  | 23 => ⟨S16384x70, .i32⟩
  | 24 => ⟨S70, .i32⟩
  | 25 => ⟨S70x1, .i32⟩
  | 26 => ⟨S560, .i32⟩
  | 27 => ⟨S1x560, .i32⟩
  | 28 => ⟨S_, .i32⟩
  | 29 => ⟨S_, .i32⟩
  | 30 => ⟨S1x560, .i32⟩
  | 31 => ⟨S1x560, .i32⟩
  | 32 => ⟨S1x560, .i32⟩
  | 33 => ⟨S_, .i32⟩
  | 34 => ⟨S1x560, .i32⟩
  | 35 => ⟨S1x560, .i1⟩
  | 36 => ⟨S1x560, .i32⟩
  | 37 => ⟨S1x560, .i32⟩
  | 38 => ⟨S_, .i32⟩
  | 39 => ⟨S1x560, .i32⟩
  | 40 => ⟨S1x560, .i1⟩
  | 41 => ⟨S1x560, .i1⟩
  | 42 => ⟨S_, .i32⟩
  | 43 => ⟨S1x560, .i32⟩
  | 44 => ⟨S1x560, .i32⟩
  | 45 => ⟨S1x560, .i32⟩
  | 46 => ⟨S_, .i32⟩
  | 47 => ⟨S_, .i32⟩
  | 48 => ⟨S70x1, .i32⟩
  | 49 => ⟨S70x1, .i32⟩
  | 50 => ⟨S70x1, .i32⟩
  | 51 => ⟨S_, .i32⟩
  | 52 => ⟨S70x1, .i32⟩
  | 53 => ⟨S70x1, .i1⟩
  | 54 => ⟨S70x1, .i32⟩
  | 55 => ⟨S70x1, .i32⟩
  | 56 => ⟨S_, .i32⟩
  | 57 => ⟨S70x1, .i32⟩
  | 58 => ⟨S70x1, .i1⟩
  | 59 => ⟨S70x1, .i1⟩
  | 60 => ⟨S_, .i32⟩
  | 61 => ⟨S70x1, .i32⟩
  | 62 => ⟨S70x1, .i32⟩
  | 63 => ⟨S70x1, .i32⟩
  | 64 => ⟨S70x560, .i32⟩
  | 65 => ⟨S70x560, .i32⟩
  | 66 => ⟨S70x560, .i1⟩
  | 67 => ⟨S_, .i32⟩
  | 68 => ⟨S_, .i32⟩
  | 69 => ⟨S_, .i32⟩
  | 70 => ⟨S_, .i1⟩
  | 71 => ⟨S_, .i32⟩
  | 72 => ⟨S_, .i32⟩
  | 73 => ⟨S1x560, .i32⟩
  | 74 => ⟨S1x560, .i32⟩
  | 75 => ⟨S_, .i32⟩
  | 76 => ⟨S1x560, .i32⟩
  | 77 => ⟨S1x560, .i1⟩
  | 78 => ⟨S_, .i32⟩
  | 79 => ⟨S1x560, .i32⟩
  | 80 => ⟨S1x560, .i1⟩
  | 81 => ⟨S_, .i32⟩
  | 82 => ⟨S_, .i1⟩
  | 83 => ⟨S1x560, .i1⟩
  | 84 => ⟨S1x560, .i1⟩
  | 85 => ⟨S1x560, .i1⟩
  | 86 => ⟨S1x560, .i32⟩
  | 87 => ⟨S1x560, .i32⟩
  | 88 => ⟨S1x560, .i32⟩
  | 89 => ⟨S_, .i32⟩
  | 90 => ⟨S_, .i32⟩
  | 91 => ⟨S1x560, .i32⟩
  | 92 => ⟨S1x560, .i32⟩
  | 93 => ⟨S1x560, .i32⟩
  | 94 => ⟨S_, .i32⟩
  | 95 => ⟨S1x560, .i32⟩
  | 96 => ⟨S1x560, .i1⟩
  | 97 => ⟨S1x560, .i32⟩
  | 98 => ⟨S1x560, .i32⟩
  | 99 => ⟨S_, .i32⟩
  | 100 => ⟨S1x560, .i32⟩
  | 101 => ⟨S1x560, .i1⟩
  | 102 => ⟨S1x560, .i1⟩
  | 103 => ⟨S_, .i32⟩
  | 104 => ⟨S1x560, .i32⟩
  | 105 => ⟨S1x560, .i32⟩
  | 106 => ⟨S1x560, .i32⟩
  | 107 => ⟨S_, .i32⟩
  | 108 => ⟨S_, .i32⟩
  | 109 => ⟨S_, .i32⟩
  | 110 => ⟨S_, .i1⟩
  | 111 => ⟨S_, .i32⟩
  | 112 => ⟨S_, .i32⟩
  | 113 => ⟨S70x1, .i32⟩
  | 114 => ⟨S70x1, .i32⟩
  | 115 => ⟨S_, .i32⟩
  | 116 => ⟨S70x1, .i32⟩
  | 117 => ⟨S70x1, .i1⟩
  | 118 => ⟨S_, .i32⟩
  | 119 => ⟨S70x1, .i32⟩
  | 120 => ⟨S70x1, .i1⟩
  | 121 => ⟨S_, .i32⟩
  | 122 => ⟨S_, .i1⟩
  | 123 => ⟨S70x1, .i1⟩
  | 124 => ⟨S70x1, .i1⟩
  | 125 => ⟨S70x1, .i1⟩
  | 126 => ⟨S70x1, .i32⟩
  | 127 => ⟨S70x1, .i32⟩
  | _ => ⟨S16384x10x56, .f32⟩

abbrev hbmTy0_1 (i : Nat) : BufTy := match i % 128 with
  | 0 => ⟨S70x1, .i32⟩
  | 1 => ⟨S70x560, .i32⟩
  | 2 => ⟨S70x560, .i32⟩
  | 3 => ⟨S70x560, .i1⟩
  | 4 => ⟨S70x560, .i1⟩
  | 5 => ⟨S70x560, .bf16⟩
  | 6 => ⟨S1120x512, .bf16⟩
  | 7 => ⟨S256x30, .f32⟩
  | 8 => ⟨S256x30, .bf16⟩
  | 9 => ⟨S1598, .f32⟩
  | 10 => ⟨S1x1598, .f32⟩
  | 11 => ⟨S512x256, .bf16⟩
  | 12 => ⟨S256x400, .bf16⟩
  | 13 => ⟨S256x400, .bf16⟩
  | 14 => ⟨S16384x400, .f32⟩
  | 15 => ⟨S16384x400, .f32⟩
  | 16 => ⟨S16384x30, .f32⟩
  | 17 => ⟨S16384x8, .f32⟩
  | 18 => ⟨S16384x6, .f32⟩
  | 19 => ⟨S16384x8, .f32⟩
  | 20 => ⟨S16384x8, .f32⟩
  | _ => ⟨S16384x10x56, .f32⟩

abbrev hbmTy (i : Nat) : BufTy := match i / 128 with
  | 0 => hbmTy0_0 i
  | 1 => hbmTy0_1 i
  | _ => ⟨S16384x10x56, .f32⟩

abbrev bufTy : (tb : Table) → Fin (tcTables nBuf tb) → BufTy
  | .hbm, ⟨i, _⟩ => hbmTy i
  | .local _ .vmem, ⟨0, _⟩ => ⟨S2240x512, .f32⟩
  | .local _ .vmem, ⟨1, _⟩ => ⟨S400x64, .f32⟩
  | .local _ .vmem, ⟨2, _⟩ => ⟨S8x4, .f32⟩
  | .local _ .vmem, ⟨3, _⟩ => ⟨S26x12, .f32⟩
  | .local _ .vmem, ⟨4, _⟩ => ⟨S32x8, .f32⟩
  | .local _ .vmem, ⟨5, _⟩ => ⟨S1120x512, .bf16⟩
  | .local _ .vmem, ⟨6, _⟩ => ⟨S56x168, .f32⟩
  | .local _ .vmem, ⟨7, _⟩ => ⟨S2048x560, .f32⟩
  | .local _ .vmem, ⟨8, _⟩ => ⟨S2048x560, .f32⟩
  | .local _ .vmem, ⟨9, _⟩ => ⟨S2048x70, .i32⟩
  | .local _ .vmem, ⟨10, _⟩ => ⟨S2048x70, .i32⟩
  | .local _ .vmem, ⟨11, _⟩ => ⟨S70x560, .bf16⟩
  | .local _ .vmem, ⟨12, _⟩ => ⟨S1120x512, .bf16⟩
  | .local _ .vmem, ⟨13, _⟩ => ⟨S512x256, .bf16⟩
  | .local _ .vmem, ⟨14, _⟩ => ⟨S256x400, .bf16⟩
  | .local _ .vmem, ⟨15, _⟩ => ⟨S256x400, .bf16⟩
  | .local _ .vmem, ⟨16, _⟩ => ⟨S256x30, .bf16⟩
  | .local _ .vmem, ⟨17, _⟩ => ⟨S1x1598, .f32⟩
  | .local _ .vmem, ⟨18, _⟩ => ⟨S2048x400, .f32⟩
  | .local _ .vmem, ⟨19, _⟩ => ⟨S2048x400, .f32⟩
  | .local _ .vmem, ⟨20, _⟩ => ⟨S2048x400, .f32⟩
  | .local _ .vmem, ⟨21, _⟩ => ⟨S2048x400, .f32⟩
  | .local _ .vmem, ⟨22, _⟩ => ⟨S2048x30, .f32⟩
  | .local _ .vmem, ⟨23, _⟩ => ⟨S2048x30, .f32⟩
  | _, _ => ⟨S16384x10x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_call0_v6 : Ref sig .tc := ⟨.hbm, 35, rfl⟩
abbrev main_call0_v7 : Ref sig .tc := ⟨.hbm, 36, rfl⟩
abbrev main_call0_v8 : Ref sig .tc := ⟨.hbm, 37, rfl⟩
abbrev main_call0_c : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_c_0 : Ref sig .tc := ⟨.hbm, 42, rfl⟩
abbrev main_call0_v12 : Ref sig .tc := ⟨.hbm, 43, rfl⟩
abbrev main_call0_v13 : Ref sig .tc := ⟨.hbm, 44, rfl⟩
abbrev main_v6 : Ref sig .tc := ⟨.hbm, 45, rfl⟩
abbrev main_c_0 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_v5 : Ref sig .tc := ⟨.hbm, 52, rfl⟩
abbrev main_call1_v6 : Ref sig .tc := ⟨.hbm, 53, rfl⟩
abbrev main_call1_v7 : Ref sig .tc := ⟨.hbm, 54, rfl⟩
abbrev main_call1_v8 : Ref sig .tc := ⟨.hbm, 55, rfl⟩
abbrev main_call1_c : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_c_0 : Ref sig .tc := ⟨.hbm, 60, rfl⟩
abbrev main_call1_v12 : Ref sig .tc := ⟨.hbm, 61, rfl⟩
abbrev main_call1_v13 : Ref sig .tc := ⟨.hbm, 62, rfl⟩
abbrev main_v7 : Ref sig .tc := ⟨.hbm, 63, rfl⟩
abbrev main_v8 : Ref sig .tc := ⟨.hbm, 64, rfl⟩
abbrev main_v9 : Ref sig .tc := ⟨.hbm, 65, rfl⟩
abbrev main_v10 : Ref sig .tc := ⟨.hbm, 66, rfl⟩
abbrev main_c_1 : Ref sig .tc := ⟨.hbm, 67, rfl⟩
abbrev main_call2_v0 : Ref sig .tc := ⟨.hbm, 68, rfl⟩
abbrev main_call2_c : Ref sig .tc := ⟨.hbm, 69, rfl⟩
abbrev main_call2_v1 : Ref sig .tc := ⟨.hbm, 70, rfl⟩
abbrev main_call2_c_0 : Ref sig .tc := ⟨.hbm, 71, rfl⟩
abbrev main_call2_v2 : Ref sig .tc := ⟨.hbm, 72, rfl⟩
abbrev main_call2_v3 : Ref sig .tc := ⟨.hbm, 73, rfl⟩
abbrev main_call2_v4 : Ref sig .tc := ⟨.hbm, 74, rfl⟩
abbrev main_call2_c_1 : Ref sig .tc := ⟨.hbm, 75, rfl⟩
abbrev main_call2_v5 : Ref sig .tc := ⟨.hbm, 76, rfl⟩
abbrev main_call2_v6 : Ref sig .tc := ⟨.hbm, 77, rfl⟩
abbrev main_call2_c_2 : Ref sig .tc := ⟨.hbm, 78, rfl⟩
abbrev main_call2_v7 : Ref sig .tc := ⟨.hbm, 79, rfl⟩
abbrev main_call2_v8 : Ref sig .tc := ⟨.hbm, 80, rfl⟩
abbrev main_call2_c_3 : Ref sig .tc := ⟨.hbm, 81, rfl⟩
abbrev main_call2_v9 : Ref sig .tc := ⟨.hbm, 82, rfl⟩
abbrev main_call2_v10 : Ref sig .tc := ⟨.hbm, 83, rfl⟩
abbrev main_call2_v11 : Ref sig .tc := ⟨.hbm, 84, rfl⟩
abbrev main_call2_v12 : Ref sig .tc := ⟨.hbm, 85, rfl⟩
abbrev main_call2_v13 : Ref sig .tc := ⟨.hbm, 86, rfl⟩
abbrev main_call2_v14 : Ref sig .tc := ⟨.hbm, 87, rfl⟩
abbrev main_v11 : Ref sig .tc := ⟨.hbm, 88, rfl⟩
abbrev main_c_2 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_call3_v3 : Ref sig .tc := ⟨.hbm, 93, rfl⟩
abbrev main_call3_v4 : Ref sig .tc := ⟨.hbm, 94, rfl⟩
abbrev main_call3_v5 : Ref sig .tc := ⟨.hbm, 95, rfl⟩
abbrev main_call3_v6 : Ref sig .tc := ⟨.hbm, 96, rfl⟩
abbrev main_call3_v7 : Ref sig .tc := ⟨.hbm, 97, rfl⟩
abbrev main_call3_v8 : Ref sig .tc := ⟨.hbm, 98, rfl⟩
abbrev main_call3_c : Ref sig .tc := ⟨.hbm, 99, rfl⟩
abbrev main_call3_v9 : Ref sig .tc := ⟨.hbm, 100, rfl⟩
abbrev main_call3_v10 : Ref sig .tc := ⟨.hbm, 101, rfl⟩
abbrev main_call3_v11 : Ref sig .tc := ⟨.hbm, 102, rfl⟩
abbrev main_call3_c_0 : Ref sig .tc := ⟨.hbm, 103, rfl⟩
abbrev main_call3_v12 : Ref sig .tc := ⟨.hbm, 104, rfl⟩
abbrev main_call3_v13 : Ref sig .tc := ⟨.hbm, 105, rfl⟩
abbrev main_v12 : Ref sig .tc := ⟨.hbm, 106, rfl⟩
abbrev main_c_3 : Ref sig .tc := ⟨.hbm, 107, rfl⟩
abbrev main_call4_v0 : Ref sig .tc := ⟨.hbm, 108, rfl⟩
abbrev main_call4_c : Ref sig .tc := ⟨.hbm, 109, rfl⟩
abbrev main_call4_v1 : Ref sig .tc := ⟨.hbm, 110, rfl⟩
abbrev main_call4_c_0 : Ref sig .tc := ⟨.hbm, 111, rfl⟩
abbrev main_call4_v2 : Ref sig .tc := ⟨.hbm, 112, rfl⟩
abbrev main_call4_v3 : Ref sig .tc := ⟨.hbm, 113, rfl⟩
abbrev main_call4_v4 : Ref sig .tc := ⟨.hbm, 114, rfl⟩
abbrev main_call4_c_1 : Ref sig .tc := ⟨.hbm, 115, rfl⟩
abbrev main_call4_v5 : Ref sig .tc := ⟨.hbm, 116, rfl⟩
abbrev main_call4_v6 : Ref sig .tc := ⟨.hbm, 117, rfl⟩
abbrev main_call4_c_2 : Ref sig .tc := ⟨.hbm, 118, rfl⟩
abbrev main_call4_v7 : Ref sig .tc := ⟨.hbm, 119, rfl⟩
abbrev main_call4_v8 : Ref sig .tc := ⟨.hbm, 120, rfl⟩
abbrev main_call4_c_3 : Ref sig .tc := ⟨.hbm, 121, rfl⟩
abbrev main_call4_v9 : Ref sig .tc := ⟨.hbm, 122, rfl⟩
abbrev main_call4_v10 : Ref sig .tc := ⟨.hbm, 123, rfl⟩
abbrev main_call4_v11 : Ref sig .tc := ⟨.hbm, 124, rfl⟩
abbrev main_call4_v12 : Ref sig .tc := ⟨.hbm, 125, rfl⟩
abbrev main_call4_v13 : Ref sig .tc := ⟨.hbm, 126, rfl⟩
abbrev main_call4_v14 : Ref sig .tc := ⟨.hbm, 127, rfl⟩
abbrev main_v13 : Ref sig .tc := ⟨.hbm, 128, rfl⟩
abbrev main_v14 : Ref sig .tc := ⟨.hbm, 129, rfl⟩
abbrev main_v15 : Ref sig .tc := ⟨.hbm, 130, rfl⟩
abbrev main_v16 : Ref sig .tc := ⟨.hbm, 131, rfl⟩
abbrev main_v17 : Ref sig .tc := ⟨.hbm, 132, rfl⟩
abbrev main_v18 : Ref sig .tc := ⟨.hbm, 133, rfl⟩
abbrev main_v19 : Ref sig .tc := ⟨.hbm, 134, rfl⟩
abbrev main_v20 : Ref sig .tc := ⟨.hbm, 135, rfl⟩
abbrev main_v21 : Ref sig .tc := ⟨.hbm, 136, rfl⟩
abbrev main_v22 : Ref sig .tc := ⟨.hbm, 137, rfl⟩
abbrev main_v23 : Ref sig .tc := ⟨.hbm, 138, rfl⟩
abbrev main_v24 : Ref sig .tc := ⟨.hbm, 139, rfl⟩
abbrev main_v25 : Ref sig .tc := ⟨.hbm, 140, rfl⟩
abbrev main_v26 : Ref sig .tc := ⟨.hbm, 141, rfl⟩
abbrev main_v27_0 : Ref sig .tc := ⟨.hbm, 142, rfl⟩
abbrev main_v27_1 : Ref sig .tc := ⟨.hbm, 143, rfl⟩
abbrev main_v27_2 : Ref sig .tc := ⟨.hbm, 144, rfl⟩
abbrev main_v28 : Ref sig .tc := ⟨.hbm, 145, rfl⟩
abbrev main_v29 : Ref sig .tc := ⟨.hbm, 146, rfl⟩
abbrev main_v30 : Ref sig .tc := ⟨.hbm, 147, rfl⟩
abbrev main_v31 : Ref sig .tc := ⟨.hbm, 148, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg9_0 : Ref sig .tc := ⟨.vmem, 18, rfl⟩
abbrev cc1_stg9_1 : Ref sig .tc := ⟨.vmem, 19, rfl⟩
abbrev cc1_stg10_0 : Ref sig .tc := ⟨.vmem, 20, rfl⟩
abbrev cc1_stg10_1 : Ref sig .tc := ⟨.vmem, 21, rfl⟩
abbrev cc1_stg11_0 : Ref sig .tc := ⟨.vmem, 22, rfl⟩
abbrev cc1_stg11_1 : Ref sig .tc := ⟨.vmem, 23, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem9_0 : DmaSem sig := 17
abbrev cc1_sem9_1 : DmaSem sig := 18
abbrev cc1_sem10_0 : DmaSem sig := 19
abbrev cc1_sem10_1 : DmaSem sig := 20
abbrev cc1_sem11_0 : DmaSem sig := 21
abbrev cc1_sem11_1 : DmaSem sig := 22

abbrev nD : Nat := 1
abbrev τ : Topo := Topo.v7x

variable {F : FTy → Type} [FloatOps F]

abbrev grid0 : Pipeline.Grid := .none

abbrev stage0_0 : Fin 1 → Memref sig .tc .vmem S2240x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S400x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S26x12 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1120x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x560 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x70 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S70x560 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1120x512 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S512x256 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x400 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256x400 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S256x30 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x1598 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S2048x400 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S2048x400 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S2048x30 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]
-- ==== ReferenceIdeal.lean ====
abbrev S16384x10x56 : Shape := ⟨3, ![16384, 10, 56]⟩
abbrev S16384x10x7 : Shape := ⟨3, ![16384, 10, 7]⟩
abbrev S400x64 : Shape := ⟨2, ![400, 64]⟩
abbrev S8x4 : Shape := ⟨2, ![8, 4]⟩
abbrev S26x12 : Shape := ⟨2, ![26, 12]⟩
abbrev S32x8 : Shape := ⟨2, ![32, 8]⟩
abbrev S2240x512 : Shape := ⟨2, ![2240, 512]⟩
abbrev S512 : Shape := ⟨1, ![512]⟩
abbrev S512x256 : Shape := ⟨2, ![512, 256]⟩
abbrev S256 : Shape := ⟨1, ![256]⟩
abbrev S256x8 : Shape := ⟨2, ![256, 8]⟩
abbrev S8 : Shape := ⟨1, ![8]⟩
abbrev S256x6 : Shape := ⟨2, ![256, 6]⟩
abbrev S6 : Shape := ⟨1, ![6]⟩
abbrev S256x400 : Shape := ⟨2, ![256, 400]⟩
abbrev S400 : Shape := ⟨1, ![400]⟩
abbrev S16384x10x1 : Shape := ⟨3, ![16384, 10, 1]⟩
abbrev S16384x10 : Shape := ⟨2, ![16384, 10]⟩
abbrev S_ : Shape := ⟨0, ![]⟩
abbrev S1 : Shape := ⟨1, ![1]⟩
abbrev S1x1x1 : Shape := ⟨3, ![1, 1, 1]⟩
abbrev S16384x10x64 : Shape := ⟨3, ![16384, 10, 64]⟩
abbrev S16384x10x4 : Shape := ⟨3, ![16384, 10, 4]⟩
abbrev S16384x10x12 : Shape := ⟨3, ![16384, 10, 12]⟩
abbrev S16384x10x8 : Shape := ⟨3, ![16384, 10, 8]⟩
abbrev S16384x10x224 : Shape := ⟨3, ![16384, 10, 224]⟩
abbrev S16384x2240 : Shape := ⟨2, ![16384, 2240]⟩
abbrev S16384x512 : Shape := ⟨2, ![16384, 512]⟩
abbrev S1x512 : Shape := ⟨2, ![1, 512]⟩
abbrev S16384x256 : Shape := ⟨2, ![16384, 256]⟩
abbrev S1x256 : Shape := ⟨2, ![1, 256]⟩
abbrev S16384x8 : Shape := ⟨2, ![16384, 8]⟩
abbrev S1x8 : Shape := ⟨2, ![1, 8]⟩
abbrev S16384x6 : Shape := ⟨2, ![16384, 6]⟩
abbrev S1x6 : Shape := ⟨2, ![1, 6]⟩
abbrev S16384x400 : Shape := ⟨2, ![16384, 400]⟩
abbrev S1x400 : Shape := ⟨2, ![1, 400]⟩

abbrev nBuf : Space → Nat
  | .hbm => 237
  | .vmem => 0
  | .smem => 0
  | _ => 0

abbrev hbmTy0_0 (i : Nat) : BufTy := match i % 128 with
  | 0 => ⟨S16384x10x56, .f32⟩
  | 1 => ⟨S16384x10x7, .i32⟩
  | 2 => ⟨S400x64, .f32⟩
  | 3 => ⟨S8x4, .f32⟩
  | 4 => ⟨S26x12, .f32⟩
  | 5 => ⟨S32x8, .f32⟩
  | 6 => ⟨S2240x512, .f32⟩
  | 7 => ⟨S512, .f32⟩
  | 8 => ⟨S512x256, .f32⟩
  | 9 => ⟨S256, .f32⟩
  | 10 => ⟨S256x8, .f32⟩
  | 11 => ⟨S8, .f32⟩
  | 12 => ⟨S256x6, .f32⟩
  | 13 => ⟨S6, .f32⟩
  | 14 => ⟨S256x400, .f32⟩
  | 15 => ⟨S400, .f32⟩
  | 16 => ⟨S256x400, .f32⟩
  | 17 => ⟨S400, .f32⟩
  | 18 => ⟨S256x8, .f32⟩
  | 19 => ⟨S8, .f32⟩
  | 20 => ⟨S256x8, .f32⟩
  | 21 => ⟨S8, .f32⟩
  | 22 => ⟨S16384x10x1, .i32⟩
  | 23 => ⟨S16384x10, .i32⟩
  | 24 => ⟨S_, .i32⟩
  | 25 => ⟨S16384x10, .i32⟩
  | 26 => ⟨S16384x10, .i1⟩
  | 27 => ⟨S_, .i32⟩
  | 28 => ⟨S16384x10, .i32⟩
  | 29 => ⟨S16384x10, .i32⟩
  | 30 => ⟨S16384x10, .i32⟩
  | 31 => ⟨S16384x10x1, .i32⟩
  | 32 => ⟨S1, .i32⟩
  | 33 => ⟨S_, .i32⟩
  | 34 => ⟨S16384x10x1, .i32⟩
  | 35 => ⟨S16384x10x1, .i1⟩
  | 36 => ⟨S1x1x1, .i32⟩
  | 37 => ⟨S16384x10x1, .i32⟩
  | 38 => ⟨S16384x10x1, .i1⟩
  | 39 => ⟨S16384x10x1, .i1⟩
  | 40 => ⟨S_, .i1⟩
  | 41 => ⟨S16384x10, .i1⟩
  | 42 => ⟨S16384x10x64, .f32⟩
  | 43 => ⟨S16384x10x64, .i1⟩
  | 44 => ⟨S_, .f32⟩
  | 45 => ⟨S16384x10x64, .f32⟩
  | 46 => ⟨S16384x10x64, .f32⟩
  | 47 => ⟨S16384x10x1, .i32⟩
  | 48 => ⟨S16384x10, .i32⟩
  | 49 => ⟨S_, .i32⟩
  | 50 => ⟨S16384x10, .i32⟩
  | 51 => ⟨S16384x10, .i1⟩
  | 52 => ⟨S_, .i32⟩
  | 53 => ⟨S16384x10, .i32⟩
  | 54 => ⟨S16384x10, .i32⟩
  | 55 => ⟨S16384x10, .i32⟩
  | 56 => ⟨S16384x10x1, .i32⟩
  | 57 => ⟨S1, .i32⟩
  | 58 => ⟨S_, .i32⟩
  | 59 => ⟨S16384x10x1, .i32⟩
  | 60 => ⟨S16384x10x1, .i1⟩
  | 61 => ⟨S1x1x1, .i32⟩
  | 62 => ⟨S16384x10x1, .i32⟩
  | 63 => ⟨S16384x10x1, .i1⟩
  | 64 => ⟨S16384x10x1, .i1⟩
  | 65 => ⟨S_, .i1⟩
  | 66 => ⟨S16384x10, .i1⟩
  | 67 => ⟨S16384x10x4, .f32⟩
  | 68 => ⟨S16384x10x4, .i1⟩
  | 69 => ⟨S_, .f32⟩
  | 70 => ⟨S16384x10x4, .f32⟩
  | 71 => ⟨S16384x10x4, .f32⟩
  | 72 => ⟨S16384x10x1, .i32⟩
  | 73 => ⟨S16384x10, .i32⟩
  | 74 => ⟨S_, .i32⟩
  | 75 => ⟨S16384x10, .i32⟩
  | 76 => ⟨S16384x10, .i1⟩
  | 77 => ⟨S_, .i32⟩
  | 78 => ⟨S16384x10, .i32⟩
  | 79 => ⟨S16384x10, .i32⟩
  | 80 => ⟨S16384x10, .i32⟩
  | 81 => ⟨S16384x10x1, .i32⟩
  | 82 => ⟨S1, .i32⟩
  | 83 => ⟨S_, .i32⟩
  | 84 => ⟨S16384x10x1, .i32⟩
  | 85 => ⟨S16384x10x1, .i1⟩
  | 86 => ⟨S1x1x1, .i32⟩
  | 87 => ⟨S16384x10x1, .i32⟩
  | 88 => ⟨S16384x10x1, .i1⟩
  | 89 => ⟨S16384x10x1, .i1⟩
  | 90 => ⟨S_, .i1⟩
  | 91 => ⟨S16384x10, .i1⟩
  | 92 => ⟨S16384x10x12, .f32⟩
  | 93 => ⟨S16384x10x12, .i1⟩
  | 94 => ⟨S_, .f32⟩
  | 95 => ⟨S16384x10x12, .f32⟩
  | 96 => ⟨S16384x10x12, .f32⟩
  | 97 => ⟨S16384x10x1, .i32⟩
  | 98 => ⟨S16384x10, .i32⟩
  | 99 => ⟨S_, .i32⟩
  | 100 => ⟨S16384x10, .i32⟩
  | 101 => ⟨S16384x10, .i1⟩
  | 102 => ⟨S_, .i32⟩
  | 103 => ⟨S16384x10, .i32⟩
  | 104 => ⟨S16384x10, .i32⟩
  | 105 => ⟨S16384x10, .i32⟩
  | 106 => ⟨S16384x10x1, .i32⟩
  | 107 => ⟨S1, .i32⟩
  | 108 => ⟨S_, .i32⟩
  | 109 => ⟨S16384x10x1, .i32⟩
  | 110 => ⟨S16384x10x1, .i1⟩
  | 111 => ⟨S1x1x1, .i32⟩
  | 112 => ⟨S16384x10x1, .i32⟩
  | 113 => ⟨S16384x10x1, .i1⟩
  | 114 => ⟨S16384x10x1, .i1⟩
  | 115 => ⟨S_, .i1⟩
  | 116 => ⟨S16384x10, .i1⟩
  | 117 => ⟨S16384x10x64, .f32⟩
  | 118 => ⟨S16384x10x64, .i1⟩
  | 119 => ⟨S_, .f32⟩
  | 120 => ⟨S16384x10x64, .f32⟩
  | 121 => ⟨S16384x10x64, .f32⟩
  | 122 => ⟨S16384x10x1, .i32⟩
  | 123 => ⟨S16384x10, .i32⟩
  | 124 => ⟨S_, .i32⟩
  | 125 => ⟨S16384x10, .i32⟩
  | 126 => ⟨S16384x10, .i1⟩
  | 127 => ⟨S_, .i32⟩
  | _ => ⟨S16384x10x56, .f32⟩

abbrev hbmTy0_1 (i : Nat) : BufTy := match i % 128 with
  | 0 => ⟨S16384x10, .i32⟩
  | 1 => ⟨S16384x10, .i32⟩
  | 2 => ⟨S16384x10, .i32⟩
  | 3 => ⟨S16384x10x1, .i32⟩
  | 4 => ⟨S1, .i32⟩
  | 5 => ⟨S_, .i32⟩
  | 6 => ⟨S16384x10x1, .i32⟩
  | 7 => ⟨S16384x10x1, .i1⟩
  | 8 => ⟨S1x1x1, .i32⟩
  | 9 => ⟨S16384x10x1, .i32⟩
  | 10 => ⟨S16384x10x1, .i1⟩
  | 11 => ⟨S16384x10x1, .i1⟩
  | 12 => ⟨S_, .i1⟩
  | 13 => ⟨S16384x10, .i1⟩
  | 14 => ⟨S16384x10x4, .f32⟩
  | 15 => ⟨S16384x10x4, .i1⟩
  | 16 => ⟨S_, .f32⟩
  | 17 => ⟨S16384x10x4, .f32⟩
  | 18 => ⟨S16384x10x4, .f32⟩
  | 19 => ⟨S16384x10x1, .i32⟩
  | 20 => ⟨S16384x10, .i32⟩
  | 21 => ⟨S_, .i32⟩
  | 22 => ⟨S16384x10, .i32⟩
  | 23 => ⟨S16384x10, .i1⟩
  | 24 => ⟨S_, .i32⟩
  | 25 => ⟨S16384x10, .i32⟩
  | 26 => ⟨S16384x10, .i32⟩
  | 27 => ⟨S16384x10, .i32⟩
  | 28 => ⟨S16384x10x1, .i32⟩
  | 29 => ⟨S1, .i32⟩
  | 30 => ⟨S_, .i32⟩
  | 31 => ⟨S16384x10x1, .i32⟩
  | 32 => ⟨S16384x10x1, .i1⟩
  | 33 => ⟨S1x1x1, .i32⟩
  | 34 => ⟨S16384x10x1, .i32⟩
  | 35 => ⟨S16384x10x1, .i1⟩
  | 36 => ⟨S16384x10x1, .i1⟩
  | 37 => ⟨S_, .i1⟩
  | 38 => ⟨S16384x10, .i1⟩
  | 39 => ⟨S16384x10x12, .f32⟩
  | 40 => ⟨S16384x10x12, .i1⟩
  | 41 => ⟨S_, .f32⟩
  | 42 => ⟨S16384x10x12, .f32⟩
  | 43 => ⟨S16384x10x12, .f32⟩
  | 44 => ⟨S16384x10x1, .i32⟩
  | 45 => ⟨S16384x10, .i32⟩
  | 46 => ⟨S_, .i32⟩
  | 47 => ⟨S16384x10, .i32⟩
  | 48 => ⟨S16384x10, .i1⟩
  | 49 => ⟨S_, .i32⟩
  | 50 => ⟨S16384x10, .i32⟩
  | 51 => ⟨S16384x10, .i32⟩
  | 52 => ⟨S16384x10, .i32⟩
  | 53 => ⟨S16384x10x1, .i32⟩
  | 54 => ⟨S1, .i32⟩
  | 55 => ⟨S_, .i32⟩
  | 56 => ⟨S16384x10x1, .i32⟩
  | 57 => ⟨S16384x10x1, .i1⟩
  | 58 => ⟨S1x1x1, .i32⟩
  | 59 => ⟨S16384x10x1, .i32⟩
  | 60 => ⟨S16384x10x1, .i1⟩
  | 61 => ⟨S16384x10x1, .i1⟩
  | 62 => ⟨S_, .i1⟩
  | 63 => ⟨S16384x10, .i1⟩
  | 64 => ⟨S16384x10x8, .f32⟩
  | 65 => ⟨S16384x10x8, .i1⟩
  | 66 => ⟨S_, .f32⟩
  | 67 => ⟨S16384x10x8, .f32⟩
  | 68 => ⟨S16384x10x8, .f32⟩
  | 69 => ⟨S16384x10x224, .f32⟩
  | 70 => ⟨S16384x2240, .f32⟩
  | 71 => ⟨S16384x512, .f32⟩
  | 72 => ⟨S1x512, .f32⟩
  | 73 => ⟨S16384x512, .f32⟩
  | 74 => ⟨S16384x512, .f32⟩
  | 75 => ⟨S_, .f32⟩
  | 76 => ⟨S16384x512, .f32⟩
  | 77 => ⟨S16384x512, .f32⟩
  | 78 => ⟨S16384x256, .f32⟩
  | 79 => ⟨S1x256, .f32⟩
  | 80 => ⟨S16384x256, .f32⟩
  | 81 => ⟨S16384x256, .f32⟩
  | 82 => ⟨S_, .f32⟩
  | 83 => ⟨S16384x256, .f32⟩
  | 84 => ⟨S16384x256, .f32⟩
  | 85 => ⟨S16384x8, .f32⟩
  | 86 => ⟨S1x8, .f32⟩
  | 87 => ⟨S16384x8, .f32⟩
  | 88 => ⟨S16384x8, .f32⟩
  | 89 => ⟨S16384x6, .f32⟩
  | 90 => ⟨S1x6, .f32⟩
  | 91 => ⟨S16384x6, .f32⟩
  | 92 => ⟨S16384x6, .f32⟩
  | 93 => ⟨S16384x400, .f32⟩
  | 94 => ⟨S1x400, .f32⟩
  | 95 => ⟨S16384x400, .f32⟩
  | 96 => ⟨S16384x400, .f32⟩
  | 97 => ⟨S16384x400, .f32⟩
  | 98 => ⟨S1x400, .f32⟩
  | 99 => ⟨S16384x400, .f32⟩
  | 100 => ⟨S16384x400, .f32⟩
  | 101 => ⟨S16384x8, .f32⟩
  | 102 => ⟨S1x8, .f32⟩
  | 103 => ⟨S16384x8, .f32⟩
  | 104 => ⟨S16384x8, .f32⟩
  | 105 => ⟨S16384x8, .f32⟩
  | 106 => ⟨S1x8, .f32⟩
  | 107 => ⟨S16384x8, .f32⟩
  | 108 => ⟨S16384x8, .f32⟩
  | _ => ⟨S16384x10x56, .f32⟩

abbrev hbmTy (i : Nat) : BufTy := match i / 128 with
  | 0 => hbmTy0_0 i
  | 1 => hbmTy0_1 i
  | _ => ⟨S16384x10x56, .f32⟩

abbrev bufTy : (tb : Table) → Fin (tcTables nBuf tb) → BufTy
  | .hbm, ⟨i, _⟩ => hbmTy i
  | _, _ => ⟨S16384x10x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_call0_c : Ref sig .tc := ⟨.hbm, 24, rfl⟩
abbrev main_call0_v0 : Ref sig .tc := ⟨.hbm, 25, rfl⟩
abbrev main_call0_v1 : Ref sig .tc := ⟨.hbm, 26, rfl⟩
abbrev main_call0_c_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_c_1 : Ref sig .tc := ⟨.hbm, 32, rfl⟩
abbrev main_call0_c_2 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_c_3 : Ref sig .tc := ⟨.hbm, 40, rfl⟩
abbrev main_call0_v12 : Ref sig .tc := ⟨.hbm, 41, rfl⟩
abbrev main_call0_v13 : Ref sig .tc := ⟨.hbm, 42, rfl⟩
abbrev main_call0_v14 : Ref sig .tc := ⟨.hbm, 43, rfl⟩
abbrev main_call0_cst : Ref sig .tc := ⟨.hbm, 44, rfl⟩
abbrev main_call0_v15 : Ref sig .tc := ⟨.hbm, 45, rfl⟩
abbrev main_v2 : Ref sig .tc := ⟨.hbm, 46, rfl⟩
abbrev main_v3 : Ref sig .tc := ⟨.hbm, 47, rfl⟩
abbrev main_v4 : Ref sig .tc := ⟨.hbm, 48, rfl⟩
abbrev main_call1_c : Ref sig .tc := ⟨.hbm, 49, rfl⟩
abbrev main_call1_v0 : Ref sig .tc := ⟨.hbm, 50, rfl⟩
abbrev main_call1_v1 : Ref sig .tc := ⟨.hbm, 51, rfl⟩
abbrev main_call1_c_0 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_v5 : Ref sig .tc := ⟨.hbm, 56, rfl⟩
abbrev main_call1_c_1 : Ref sig .tc := ⟨.hbm, 57, rfl⟩
abbrev main_call1_c_2 : Ref sig .tc := ⟨.hbm, 58, rfl⟩
abbrev main_call1_v6 : Ref sig .tc := ⟨.hbm, 59, rfl⟩
abbrev main_call1_v7 : Ref sig .tc := ⟨.hbm, 60, rfl⟩
abbrev main_call1_v8 : Ref sig .tc := ⟨.hbm, 61, rfl⟩
abbrev main_call1_v9 : Ref sig .tc := ⟨.hbm, 62, rfl⟩
abbrev main_call1_v10 : Ref sig .tc := ⟨.hbm, 63, rfl⟩
abbrev main_call1_v11 : Ref sig .tc := ⟨.hbm, 64, rfl⟩
abbrev main_call1_c_3 : Ref sig .tc := ⟨.hbm, 65, rfl⟩
abbrev main_call1_v12 : Ref sig .tc := ⟨.hbm, 66, rfl⟩
abbrev main_call1_v13 : Ref sig .tc := ⟨.hbm, 67, rfl⟩
abbrev main_call1_v14 : Ref sig .tc := ⟨.hbm, 68, rfl⟩
abbrev main_call1_cst : Ref sig .tc := ⟨.hbm, 69, rfl⟩
abbrev main_call1_v15 : Ref sig .tc := ⟨.hbm, 70, rfl⟩
abbrev main_v5 : Ref sig .tc := ⟨.hbm, 71, rfl⟩
abbrev main_v6 : Ref sig .tc := ⟨.hbm, 72, rfl⟩
abbrev main_v7 : Ref sig .tc := ⟨.hbm, 73, rfl⟩
abbrev main_call2_c : Ref sig .tc := ⟨.hbm, 74, rfl⟩
abbrev main_call2_v0 : Ref sig .tc := ⟨.hbm, 75, rfl⟩
abbrev main_call2_v1 : Ref sig .tc := ⟨.hbm, 76, rfl⟩
abbrev main_call2_c_0 : Ref sig .tc := ⟨.hbm, 77, rfl⟩
abbrev main_call2_v2 : Ref sig .tc := ⟨.hbm, 78, rfl⟩
abbrev main_call2_v3 : Ref sig .tc := ⟨.hbm, 79, rfl⟩
abbrev main_call2_v4 : Ref sig .tc := ⟨.hbm, 80, rfl⟩
abbrev main_call2_v5 : Ref sig .tc := ⟨.hbm, 81, rfl⟩
abbrev main_call2_c_1 : Ref sig .tc := ⟨.hbm, 82, rfl⟩
abbrev main_call2_c_2 : Ref sig .tc := ⟨.hbm, 83, rfl⟩
abbrev main_call2_v6 : Ref sig .tc := ⟨.hbm, 84, rfl⟩
abbrev main_call2_v7 : Ref sig .tc := ⟨.hbm, 85, rfl⟩
abbrev main_call2_v8 : Ref sig .tc := ⟨.hbm, 86, rfl⟩
abbrev main_call2_v9 : Ref sig .tc := ⟨.hbm, 87, rfl⟩
abbrev main_call2_v10 : Ref sig .tc := ⟨.hbm, 88, rfl⟩
abbrev main_call2_v11 : Ref sig .tc := ⟨.hbm, 89, rfl⟩
abbrev main_call2_c_3 : Ref sig .tc := ⟨.hbm, 90, rfl⟩
abbrev main_call2_v12 : Ref sig .tc := ⟨.hbm, 91, rfl⟩
abbrev main_call2_v13 : Ref sig .tc := ⟨.hbm, 92, rfl⟩
abbrev main_call2_v14 : Ref sig .tc := ⟨.hbm, 93, rfl⟩
abbrev main_call2_cst : Ref sig .tc := ⟨.hbm, 94, rfl⟩
abbrev main_call2_v15 : Ref sig .tc := ⟨.hbm, 95, rfl⟩
abbrev main_v8 : Ref sig .tc := ⟨.hbm, 96, rfl⟩
abbrev main_v9 : Ref sig .tc := ⟨.hbm, 97, rfl⟩
abbrev main_v10 : Ref sig .tc := ⟨.hbm, 98, rfl⟩
abbrev main_call3_c : Ref sig .tc := ⟨.hbm, 99, rfl⟩
abbrev main_call3_v0 : Ref sig .tc := ⟨.hbm, 100, rfl⟩
abbrev main_call3_v1 : Ref sig .tc := ⟨.hbm, 101, rfl⟩
abbrev main_call3_c_0 : Ref sig .tc := ⟨.hbm, 102, rfl⟩
abbrev main_call3_v2 : Ref sig .tc := ⟨.hbm, 103, rfl⟩
abbrev main_call3_v3 : Ref sig .tc := ⟨.hbm, 104, rfl⟩
abbrev main_call3_v4 : Ref sig .tc := ⟨.hbm, 105, rfl⟩
abbrev main_call3_v5 : Ref sig .tc := ⟨.hbm, 106, rfl⟩
abbrev main_call3_c_1 : Ref sig .tc := ⟨.hbm, 107, rfl⟩
abbrev main_call3_c_2 : Ref sig .tc := ⟨.hbm, 108, rfl⟩
abbrev main_call3_v6 : Ref sig .tc := ⟨.hbm, 109, rfl⟩
abbrev main_call3_v7 : Ref sig .tc := ⟨.hbm, 110, rfl⟩
abbrev main_call3_v8 : Ref sig .tc := ⟨.hbm, 111, rfl⟩
abbrev main_call3_v9 : Ref sig .tc := ⟨.hbm, 112, rfl⟩
abbrev main_call3_v10 : Ref sig .tc := ⟨.hbm, 113, rfl⟩
abbrev main_call3_v11 : Ref sig .tc := ⟨.hbm, 114, rfl⟩
abbrev main_call3_c_3 : Ref sig .tc := ⟨.hbm, 115, rfl⟩
abbrev main_call3_v12 : Ref sig .tc := ⟨.hbm, 116, rfl⟩
abbrev main_call3_v13 : Ref sig .tc := ⟨.hbm, 117, rfl⟩
abbrev main_call3_v14 : Ref sig .tc := ⟨.hbm, 118, rfl⟩
abbrev main_call3_cst : Ref sig .tc := ⟨.hbm, 119, rfl⟩
abbrev main_call3_v15 : Ref sig .tc := ⟨.hbm, 120, rfl⟩
abbrev main_v11 : Ref sig .tc := ⟨.hbm, 121, rfl⟩
abbrev main_v12 : Ref sig .tc := ⟨.hbm, 122, rfl⟩
abbrev main_v13 : Ref sig .tc := ⟨.hbm, 123, rfl⟩
abbrev main_call4_c : Ref sig .tc := ⟨.hbm, 124, rfl⟩
abbrev main_call4_v0 : Ref sig .tc := ⟨.hbm, 125, rfl⟩
abbrev main_call4_v1 : Ref sig .tc := ⟨.hbm, 126, rfl⟩
abbrev main_call4_c_0 : Ref sig .tc := ⟨.hbm, 127, rfl⟩
abbrev main_call4_v2 : Ref sig .tc := ⟨.hbm, 128, rfl⟩
abbrev main_call4_v3 : Ref sig .tc := ⟨.hbm, 129, rfl⟩
abbrev main_call4_v4 : Ref sig .tc := ⟨.hbm, 130, rfl⟩
abbrev main_call4_v5 : Ref sig .tc := ⟨.hbm, 131, rfl⟩
abbrev main_call4_c_1 : Ref sig .tc := ⟨.hbm, 132, rfl⟩
abbrev main_call4_c_2 : Ref sig .tc := ⟨.hbm, 133, rfl⟩
abbrev main_call4_v6 : Ref sig .tc := ⟨.hbm, 134, rfl⟩
abbrev main_call4_v7 : Ref sig .tc := ⟨.hbm, 135, rfl⟩
abbrev main_call4_v8 : Ref sig .tc := ⟨.hbm, 136, rfl⟩
abbrev main_call4_v9 : Ref sig .tc := ⟨.hbm, 137, rfl⟩
abbrev main_call4_v10 : Ref sig .tc := ⟨.hbm, 138, rfl⟩
abbrev main_call4_v11 : Ref sig .tc := ⟨.hbm, 139, rfl⟩
abbrev main_call4_c_3 : Ref sig .tc := ⟨.hbm, 140, rfl⟩
abbrev main_call4_v12 : Ref sig .tc := ⟨.hbm, 141, rfl⟩
abbrev main_call4_v13 : Ref sig .tc := ⟨.hbm, 142, rfl⟩
abbrev main_call4_v14 : Ref sig .tc := ⟨.hbm, 143, rfl⟩
abbrev main_call4_cst : Ref sig .tc := ⟨.hbm, 144, rfl⟩
abbrev main_call4_v15 : Ref sig .tc := ⟨.hbm, 145, rfl⟩
abbrev main_v14 : Ref sig .tc := ⟨.hbm, 146, rfl⟩
abbrev main_v15 : Ref sig .tc := ⟨.hbm, 147, rfl⟩
abbrev main_v16 : Ref sig .tc := ⟨.hbm, 148, rfl⟩
abbrev main_call5_c : Ref sig .tc := ⟨.hbm, 149, rfl⟩
abbrev main_call5_v0 : Ref sig .tc := ⟨.hbm, 150, rfl⟩
abbrev main_call5_v1 : Ref sig .tc := ⟨.hbm, 151, rfl⟩
abbrev main_call5_c_0 : Ref sig .tc := ⟨.hbm, 152, rfl⟩
abbrev main_call5_v2 : Ref sig .tc := ⟨.hbm, 153, rfl⟩
abbrev main_call5_v3 : Ref sig .tc := ⟨.hbm, 154, rfl⟩
abbrev main_call5_v4 : Ref sig .tc := ⟨.hbm, 155, rfl⟩
abbrev main_call5_v5 : Ref sig .tc := ⟨.hbm, 156, rfl⟩
abbrev main_call5_c_1 : Ref sig .tc := ⟨.hbm, 157, rfl⟩
abbrev main_call5_c_2 : Ref sig .tc := ⟨.hbm, 158, rfl⟩
abbrev main_call5_v6 : Ref sig .tc := ⟨.hbm, 159, rfl⟩
abbrev main_call5_v7 : Ref sig .tc := ⟨.hbm, 160, rfl⟩
abbrev main_call5_v8 : Ref sig .tc := ⟨.hbm, 161, rfl⟩
abbrev main_call5_v9 : Ref sig .tc := ⟨.hbm, 162, rfl⟩
abbrev main_call5_v10 : Ref sig .tc := ⟨.hbm, 163, rfl⟩
abbrev main_call5_v11 : Ref sig .tc := ⟨.hbm, 164, rfl⟩
abbrev main_call5_c_3 : Ref sig .tc := ⟨.hbm, 165, rfl⟩
abbrev main_call5_v12 : Ref sig .tc := ⟨.hbm, 166, rfl⟩
abbrev main_call5_v13 : Ref sig .tc := ⟨.hbm, 167, rfl⟩
abbrev main_call5_v14 : Ref sig .tc := ⟨.hbm, 168, rfl⟩
abbrev main_call5_cst : Ref sig .tc := ⟨.hbm, 169, rfl⟩
abbrev main_call5_v15 : Ref sig .tc := ⟨.hbm, 170, rfl⟩
abbrev main_v17 : Ref sig .tc := ⟨.hbm, 171, rfl⟩
abbrev main_v18 : Ref sig .tc := ⟨.hbm, 172, rfl⟩
abbrev main_v19 : Ref sig .tc := ⟨.hbm, 173, rfl⟩
abbrev main_call6_c : Ref sig .tc := ⟨.hbm, 174, rfl⟩
abbrev main_call6_v0 : Ref sig .tc := ⟨.hbm, 175, rfl⟩
abbrev main_call6_v1 : Ref sig .tc := ⟨.hbm, 176, rfl⟩
abbrev main_call6_c_0 : Ref sig .tc := ⟨.hbm, 177, rfl⟩
abbrev main_call6_v2 : Ref sig .tc := ⟨.hbm, 178, rfl⟩
abbrev main_call6_v3 : Ref sig .tc := ⟨.hbm, 179, rfl⟩
abbrev main_call6_v4 : Ref sig .tc := ⟨.hbm, 180, rfl⟩
abbrev main_call6_v5 : Ref sig .tc := ⟨.hbm, 181, rfl⟩
abbrev main_call6_c_1 : Ref sig .tc := ⟨.hbm, 182, rfl⟩
abbrev main_call6_c_2 : Ref sig .tc := ⟨.hbm, 183, rfl⟩
abbrev main_call6_v6 : Ref sig .tc := ⟨.hbm, 184, rfl⟩
abbrev main_call6_v7 : Ref sig .tc := ⟨.hbm, 185, rfl⟩
abbrev main_call6_v8 : Ref sig .tc := ⟨.hbm, 186, rfl⟩
abbrev main_call6_v9 : Ref sig .tc := ⟨.hbm, 187, rfl⟩
abbrev main_call6_v10 : Ref sig .tc := ⟨.hbm, 188, rfl⟩
abbrev main_call6_v11 : Ref sig .tc := ⟨.hbm, 189, rfl⟩
abbrev main_call6_c_3 : Ref sig .tc := ⟨.hbm, 190, rfl⟩
abbrev main_call6_v12 : Ref sig .tc := ⟨.hbm, 191, rfl⟩
abbrev main_call6_v13 : Ref sig .tc := ⟨.hbm, 192, rfl⟩
abbrev main_call6_v14 : Ref sig .tc := ⟨.hbm, 193, rfl⟩
abbrev main_call6_cst : Ref sig .tc := ⟨.hbm, 194, rfl⟩
abbrev main_call6_v15 : Ref sig .tc := ⟨.hbm, 195, rfl⟩
abbrev main_v20 : Ref sig .tc := ⟨.hbm, 196, rfl⟩
abbrev main_v21 : Ref sig .tc := ⟨.hbm, 197, rfl⟩
abbrev main_v22 : Ref sig .tc := ⟨.hbm, 198, rfl⟩
abbrev main_v23 : Ref sig .tc := ⟨.hbm, 199, rfl⟩
abbrev main_v24 : Ref sig .tc := ⟨.hbm, 200, rfl⟩
abbrev main_v25 : Ref sig .tc := ⟨.hbm, 201, rfl⟩
abbrev main_v26 : Ref sig .tc := ⟨.hbm, 202, rfl⟩
abbrev main_call7_cst : Ref sig .tc := ⟨.hbm, 203, rfl⟩
abbrev main_call7_v0 : Ref sig .tc := ⟨.hbm, 204, rfl⟩
abbrev main_v27 : Ref sig .tc := ⟨.hbm, 205, rfl⟩
abbrev main_v28 : Ref sig .tc := ⟨.hbm, 206, rfl⟩
abbrev main_v29 : Ref sig .tc := ⟨.hbm, 207, rfl⟩
abbrev main_v30 : Ref sig .tc := ⟨.hbm, 208, rfl⟩
abbrev main_v31 : Ref sig .tc := ⟨.hbm, 209, rfl⟩
abbrev main_call8_cst : Ref sig .tc := ⟨.hbm, 210, rfl⟩
abbrev main_call8_v0 : Ref sig .tc := ⟨.hbm, 211, rfl⟩
abbrev main_v32 : Ref sig .tc := ⟨.hbm, 212, rfl⟩
abbrev main_v33 : Ref sig .tc := ⟨.hbm, 213, rfl⟩
abbrev main_v34 : Ref sig .tc := ⟨.hbm, 214, rfl⟩
abbrev main_v35 : Ref sig .tc := ⟨.hbm, 215, rfl⟩
abbrev main_v36 : Ref sig .tc := ⟨.hbm, 216, rfl⟩
abbrev main_v37 : Ref sig .tc := ⟨.hbm, 217, rfl⟩
abbrev main_v38 : Ref sig .tc := ⟨.hbm, 218, rfl⟩
abbrev main_v39 : Ref sig .tc := ⟨.hbm, 219, rfl⟩
abbrev main_v40 : Ref sig .tc := ⟨.hbm, 220, rfl⟩
abbrev main_v41 : Ref sig .tc := ⟨.hbm, 221, rfl⟩
abbrev main_v42 : Ref sig .tc := ⟨.hbm, 222, rfl⟩
abbrev main_v43 : Ref sig .tc := ⟨.hbm, 223, rfl⟩
abbrev main_v44 : Ref sig .tc := ⟨.hbm, 224, rfl⟩
abbrev main_v45 : Ref sig .tc := ⟨.hbm, 225, rfl⟩
abbrev main_v46 : Ref sig .tc := ⟨.hbm, 226, rfl⟩
abbrev main_v47 : Ref sig .tc := ⟨.hbm, 227, rfl⟩
abbrev main_v48 : Ref sig .tc := ⟨.hbm, 228, rfl⟩
abbrev main_v49 : Ref sig .tc := ⟨.hbm, 229, rfl⟩
abbrev main_v50 : Ref sig .tc := ⟨.hbm, 230, rfl⟩
abbrev main_v51 : Ref sig .tc := ⟨.hbm, 231, rfl⟩
abbrev main_v52 : Ref sig .tc := ⟨.hbm, 232, rfl⟩
abbrev main_v53 : Ref sig .tc := ⟨.hbm, 233, rfl⟩
abbrev main_v54 : Ref sig .tc := ⟨.hbm, 234, rfl⟩
abbrev main_v55 : Ref sig .tc := ⟨.hbm, 235, rfl⟩
abbrev main_v56 : Ref sig .tc := ⟨.hbm, 236, rfl⟩

abbrev nD : Nat := 1
abbrev τ : Topo := Topo.v7x

variable {F : FTy → Type} [FloatOps F]
-- ==== Proof.Results.lean ====
/- The run of the idealized kernel, read at its six results: the launch of its two regions and of the host
   stretches around them, from any memory with zero counters, ends with each result at the contents `W15` that the
   boundary valuations of the frame name, and with every argument as launched. -/
module

public import proofs.«01_k».proof.Proof.Gen.KernelIdeal.Frame

@[expose] public section

noncomputable section

namespace Cert.KernelIdeal.Results

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]
local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every fair execution of the idealized kernel ends, nothing faulting, with each of its six results at the last
    boundary's contents and every argument as launched. -/
theorem run : θ_run defs (onTc (τ := τ) (main (F := F))) ⟨m, fun _ => 0, ρ⟩ (fun r => ∀ c : Dev nD,
      r.2.mem ((c.tc : Thread nD τ).loc main_v28) = W15 m ρ c (Proc.devRef .tc main_v28)
      ∧ r.2.mem ((c.tc : Thread nD τ).loc main_v29) = W15 m ρ c (Proc.devRef .tc main_v29)
      ∧ r.2.mem ((c.tc : Thread nD τ).loc main_v27_0) = W15 m ρ c (Proc.devRef .tc main_v27_0)
      ∧ r.2.mem ((c.tc : Thread nD τ).loc main_v27_1) = W15 m ρ c (Proc.devRef .tc main_v27_1)
      ∧ r.2.mem ((c.tc : Thread nD τ).loc main_v30) = W15 m ρ c (Proc.devRef .tc main_v30)
      ∧ r.2.mem ((c.tc : Thread nD τ).loc main_v31) = W15 m ρ c (Proc.devRef .tc main_v31)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h _ => fun c =>
    ⟨h c _ (mem_uc main_v28 (by decide)),
     h c _ (mem_uc main_v29 (by decide)),
     h c _ (mem_uc main_v27_0 (by decide)),
     h c _ (mem_uc main_v27_1 (by decide)),
     h c _ (mem_uc main_v30 (by decide)),
     h c _ (mem_uc main_v31 (by decide)),
     (h c _ (mem_uc main_arg0 (by decide))).trans (W15_main_arg0 m ρ c),
     (h c _ (mem_uc main_arg1 (by decide))).trans (W15_main_arg1 m ρ c),
     (h c _ (mem_uc main_arg2 (by decide))).trans (W15_main_arg2 m ρ c),
     (h c _ (mem_uc main_arg3 (by decide))).trans (W15_main_arg3 m ρ c),
     (h c _ (mem_uc main_arg4 (by decide))).trans (W15_main_arg4 m ρ c),
     (h c _ (mem_uc main_arg5 (by decide))).trans (W15_main_arg5 m ρ c),
     (h c _ (mem_uc main_arg6 (by decide))).trans (W15_main_arg6 m ρ c),
     (h c _ (mem_uc main_arg7 (by decide))).trans (W15_main_arg7 m ρ c),
     (h c _ (mem_uc main_arg8 (by decide))).trans (W15_main_arg8 m ρ c),
     (h c _ (mem_uc main_arg9 (by decide))).trans (W15_main_arg9 m ρ c),
     (h c _ (mem_uc main_arg10 (by decide))).trans (W15_main_arg10 m ρ c),
     (h c _ (mem_uc main_arg11 (by decide))).trans (W15_main_arg11 m ρ c),
     (h c _ (mem_uc main_arg12 (by decide))).trans (W15_main_arg12 m ρ c),
     (h c _ (mem_uc main_arg13 (by decide))).trans (W15_main_arg13 m ρ c),
     (h c _ (mem_uc main_arg14 (by decide))).trans (W15_main_arg14 m ρ c),
     (h c _ (mem_uc main_arg15 (by decide))).trans (W15_main_arg15 m ρ c),
     (h c _ (mem_uc main_arg16 (by decide))).trans (W15_main_arg16 m ρ c),
     (h c _ (mem_uc main_arg17 (by decide))).trans (W15_main_arg17 m ρ c),
     (h c _ (mem_uc main_arg18 (by decide))).trans (W15_main_arg18 m ρ c),
     (h c _ (mem_uc main_arg19 (by decide))).trans (W15_main_arg19 m ρ c),
     (h c _ (mem_uc main_arg20 (by decide))).trans (W15_main_arg20 m ρ c),
     (h c _ (mem_uc main_arg21 (by decide))).trans (W15_main_arg21 m ρ c)⟩)

end Cert.KernelIdeal.Results

end
-- ==== Proof.Fold.lean ====
/- The first region of the idealized kernel, read as a function of the arrays it is launched on: the rows of the first
   weight matrix that meet the plain features, and below them the small embedding tables multiplied through the rows
   that meet the embeddings. -/
module

public import proofs.«01_k».proof.Proof.Gen.KernelIdeal.Frame
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Fold

open Idealize.ShloMosaic Idealize.ShloMosaic.TcCoe Idealize.SL.Sem
open Idealize.ShloMosaic.Pipeline (Dat)
open Cert.KernelIdeal Cert.KernelIdeal.Gen

/-- The contents that stores leave, read at an index of a matrix: the last store's payload inside its rectangle, the
    earlier stores' contents outside it. -/
theorem canon_cons_matrix {Val : EltTy → Type} [∀ e, Nonempty (Val e)] {e : EltTy} {p q : ℕ} (o0 o1 n0 n1 : ℕ)
    (inb : ∀ a, (![o0, o1] : Fin 2 → ℕ) a + (![n0, n1] : Fin 2 → ℕ) a ≤ (⟨2, ![p, q]⟩ : Shape).size a)
    (w : (⟨2, ![n0, n1]⟩ : Shape).Idx → Val e) (L : List (View.Piece Val ⟨2, ![p, q]⟩ e)) (a : Fin p) (b : Fin q) :
    View.canon ((⟨Rect.unit (s := ⟨2, ![p, q]⟩) ![o0, o1] ![n0, n1] inb, w⟩ : View.Piece Val ⟨2, ![p, q]⟩ e) :: L) (ix2 a b)
      = if h : (o0 ≤ (a : ℕ) ∧ (a : ℕ) < o0 + n0) ∧ o1 ≤ (b : ℕ) ∧ (b : ℕ) < o1 + n1
        then w (ix2 ⟨(a : ℕ) - o0, by omega⟩ ⟨(b : ℕ) - o1, by omega⟩) else View.canon L (ix2 a b) := by
  split
  · next h =>
    have hx : (ix2 a b : (⟨2, ![p, q]⟩ : Shape).Idx)
        = (Rect.unit (s := ⟨2, ![p, q]⟩) ![o0, o1] ![n0, n1] inb).emb (ix2 ⟨(a : ℕ) - o0, by omega⟩ ⟨(b : ℕ) - o1, by omega⟩) := by
      funext k
      apply Fin.ext
      rw [Rect.emb_apply]
      match k with
      | ⟨0, _⟩ => show (a : ℕ) = o0 + 1 * ((a : ℕ) - o0); omega
      | ⟨1, _⟩ => show (b : ℕ) = o1 + 1 * ((b : ℕ) - o1); omega
    rw [hx]
    exact View.canon_cons_emb (Rect.unit (s := ⟨2, ![p, q]⟩) ![o0, o1] ![n0, n1] inb) w L _
  · next h =>
    refine View.canon_cons_of_not_mem _ L fun hm => h ?_
    obtain ⟨x, hx⟩ := LoadRect.exists_idx_of_mem _ hm
    have h0 : (a : ℕ) = o0 + 1 * ((x 0 : Fin n0) : ℕ) := congrArg (fun i : (⟨2, ![p, q]⟩ : Shape).Idx => (i 0 : ℕ)) hx.symm
    have h1 : (b : ℕ) = o1 + 1 * ((x 1 : Fin n1) : ℕ) := congrArg (fun i : (⟨2, ![p, q]⟩ : Shape).Idx => (i 1 : ℕ)) hx.symm
    have g0 : ((x 0 : Fin n0) : ℕ) < n0 := (x 0 : Fin n0).isLt
    have g1 : ((x 1 : Fin n1) : ℕ) < n1 := (x 1 : Fin n1).isLt
    omega

/-- A load of the whole matrix after stores reads the contents they leave. -/
theorem readCov_matrix {sig : RefSig} {κ : Kind} {sp : Space} {Val : EltTy → Type} [∀ e, Nonempty (Val e)] {e : EltTy} {p q : ℕ}
    (v : View sig κ sp ⟨2, ![p, q]⟩ e) (inb : ∀ a, (![0, 0] : Fin 2 → ℕ) a + (![p, q] : Fin 2 → ℕ) a ≤ (⟨2, ![p, q]⟩ : Shape).size a)
    (L : List (View.Piece Val ⟨2, ![p, q]⟩ e)) (a : Fin p) (b : Fin q) :
    v.readCov L (Rect.unit (s := ⟨2, ![p, q]⟩) ![0, 0] ![p, q] inb).toLoadRect (ix2 a b) = View.canon L (ix2 a b) := by
  rw [View.readCov_eq_canon']
  refine congrArg (View.canon L) ?_
  funext k
  apply Fin.ext
  match k with
  | ⟨0, _⟩ => show 0 + 1 * (a : ℕ) = (a : ℕ); omega
  | ⟨1, _⟩ => show 0 + 1 * (b : ℕ) = (b : ℕ); omega

/-- The embedding lanes that the first eight rows of the tables fill, slot by slot: row `8 s + v` holds code `v` of slot
    `s` in that slot's lanes and zero in all other lanes. -/
def codes (A : FVec Ideal S400x64 .f32) (J : FVec Ideal S8x4 .f32) (R : FVec Ideal S26x12 .f32) (G : FVec Ideal S32x8 .f32)
    (a : Fin 56) (e : Fin 168) : EReal :=
  if h : (48 ≤ (a : ℕ) ∧ (a : ℕ) < 48 + 8) ∧ 160 ≤ (e : ℕ) ∧ (e : ℕ) < 160 + 8 then G (ix2 ⟨(a : ℕ) - 48, by omega⟩ ⟨(e : ℕ) - 160, by omega⟩)
  else if h : (40 ≤ (a : ℕ) ∧ (a : ℕ) < 40 + 8) ∧ 148 ≤ (e : ℕ) ∧ (e : ℕ) < 148 + 12 then R (ix2 ⟨(a : ℕ) - 40, by omega⟩ ⟨(e : ℕ) - 148, by omega⟩)
  else if h : (32 ≤ (a : ℕ) ∧ (a : ℕ) < 32 + 8) ∧ 144 ≤ (e : ℕ) ∧ (e : ℕ) < 144 + 4 then J (ix2 ⟨(a : ℕ) - 32, by omega⟩ ⟨(e : ℕ) - 144, by omega⟩)
  else if h : (24 ≤ (a : ℕ) ∧ (a : ℕ) < 24 + 8) ∧ 80 ≤ (e : ℕ) ∧ (e : ℕ) < 80 + 64 then A (ix2 ⟨(a : ℕ) - 24, by omega⟩ ⟨(e : ℕ) - 80, by omega⟩)
  else if h : (16 ≤ (a : ℕ) ∧ (a : ℕ) < 16 + 8) ∧ 68 ≤ (e : ℕ) ∧ (e : ℕ) < 68 + 12 then R (ix2 ⟨(a : ℕ) - 16, by omega⟩ ⟨(e : ℕ) - 68, by omega⟩)
  else if h : (8 ≤ (a : ℕ) ∧ (a : ℕ) < 8 + 8) ∧ 64 ≤ (e : ℕ) ∧ (e : ℕ) < 64 + 4 then J (ix2 ⟨(a : ℕ) - 8, by omega⟩ ⟨(e : ℕ) - 64, by omega⟩)
  else if h : (0 ≤ (a : ℕ) ∧ (a : ℕ) < 0 + 8) ∧ 0 ≤ (e : ℕ) ∧ (e : ℕ) < 0 + 64 then A (ix2 ⟨(a : ℕ) - 0, by omega⟩ ⟨(e : ℕ) - 0, by omega⟩)
  else 0

/-- The folded table: 56 rows of each of the ten forwards' plain features, then 56 rows of each of their codes. -/
def folded (W : FVec Ideal S2240x512 .f32) (A : FVec Ideal S400x64 .f32) (J : FVec Ideal S8x4 .f32)
    (R : FVec Ideal S26x12 .f32) (G : FVec Ideal S32x8 .f32) : FVec Ideal S1120x512 .bf16 := fun y =>
  let r : Fin 1120 := y 0
  if h : (r : ℕ) < 560 then W (ix2 ⟨(r : ℕ) / 56 * 224 + (r : ℕ) % 56, by omega⟩ (y 1))
  else ∑ e : Fin 168, codes A J R G ⟨((r : ℕ) - 560) % 56, by omega⟩ e
    * W (ix2 ⟨((r : ℕ) - 560) / 56 * 224 + 56 + (e : ℕ), by omega⟩ (y 1))

/-- A row of the upper half. -/
theorem folded_row (W : FVec Ideal S2240x512 .f32) (A : FVec Ideal S400x64 .f32) (J : FVec Ideal S8x4 .f32)
    (R : FVec Ideal S26x12 .f32) (G : FVec Ideal S32x8 .f32) (r : Fin 1120) (n : Fin 512) (k f : ℕ) (hk : k < 10) (hf : f < 56)
    (h : (r : ℕ) = k * 56 + f) (i : Fin 2240) (hi : (i : ℕ) = k * 224 + f) : folded W A J R G (ix2 r n) = W (ix2 i n) := by
  show (if h : (r : ℕ) < 560 then _ else _) = _
  rw [dif_pos (by omega)]
  show W (ix2 _ _) = _
  congr 2
  apply Fin.ext
  show (r : ℕ) / 56 * 224 + (r : ℕ) % 56 = (i : ℕ)
  have : (r : ℕ) / 56 = k := by omega
  omega

/-- A row of the lower half. -/
theorem folded_code (W : FVec Ideal S2240x512 .f32) (A : FVec Ideal S400x64 .f32) (J : FVec Ideal S8x4 .f32)
    (R : FVec Ideal S26x12 .f32) (G : FVec Ideal S32x8 .f32) (r : Fin 1120) (n : Fin 512) (k : ℕ) (a : Fin 56) (hk : k < 10)
    (h : (r : ℕ) = 560 + k * 56 + (a : ℕ)) :
    folded W A J R G (ix2 r n) = ∑ e : Fin 168, codes A J R G a e * W (ix2 ⟨k * 224 + 56 + (e : ℕ), by omega⟩ n) := by
  show (if h : (r : ℕ) < 560 then _ else _) = _
  rw [dif_neg (by omega)]
  refine Finset.sum_congr rfl fun e _ => ?_
  have h0 : ((r : ℕ) - 560) / 56 = k := by omega
  have h1 : (⟨((r : ℕ) - 560) % 56, by omega⟩ : Fin 56) = a := Fin.ext (by show ((r : ℕ) - 560) % 56 = (a : ℕ); omega)
  refine congrArg₂ (· * ·) (congrArg (fun a => codes A J R G a e) h1) ?_
  show W (ix2 _ _) = _
  congr 2
  apply Fin.ext
  show ((r : ℕ) - 560) / 56 * 224 + 56 + (e : ℕ) = k * 224 + 56 + (e : ℕ)
  rw [h0]

variable (V : (c : Dev nD) → (b : Ref sig .tc) → Buf (Elt Ideal) ((c : Thread nD τ).loc b))

/-- Every window is read or written whole. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] :=
  (by decide +kernel : ∀ t : Fin grid0.N, _)

/-- Window 0 is the first weight matrix. -/
theorem blk0 (c : Dev nD) (t : Fin cfg0.N) : iblk0 V c 0 t = V c main_arg6 := by blk_ext! [iblk0, idx t]
/-- Window 1 is the action table. -/
theorem blk1 (c : Dev nD) (t : Fin cfg0.N) : iblk0 V c 1 t = V c main_arg2 := by blk_ext! [iblk0, idx t]
/-- Window 2 is the jumps table. -/
theorem blk2 (c : Dev nD) (t : Fin cfg0.N) : iblk0 V c 2 t = V c main_arg3 := by blk_ext! [iblk0, idx t]
/-- Window 3 is the character table. -/
theorem blk3 (c : Dev nD) (t : Fin cfg0.N) : iblk0 V c 3 t = V c main_arg4 := by blk_ext! [iblk0, idx t]
/-- Window 4 is the stage table. -/
theorem blk4 (c : Dev nD) (t : Fin cfg0.N) : iblk0 V c 4 t = V c main_arg5 := by blk_ext! [iblk0, idx t]

/-- The result array of the region. -/
theorem arr (c : Dev nD) : (dat0 V c).arrAt 5 cfg0.N
    = folded (V c main_arg6) (V c main_arg2) (V c main_arg3) (V c main_arg4) (V c main_arg5) := by
  refine (dat0 V c).arrAt_eq_of_after_last 5 t0_0 (by decide +kernel) _ fun y => ?_
  blk_simp
  rw [after0_5]
  unfold outsAt0 out0_A_5
  frame_out
  simp only [read_unread_whole, blk0, blk1, blk2, blk3, blk4]
  generalize hC : View.readCov (Val := Elt Ideal) (View.whole cc0_scratch0) _ _ = C
  have hc : ∀ (a : Fin 56) (e : Fin 168), C (ix2 a e) = codes (V c main_arg2) (V c main_arg3) (V c main_arg4) (V c main_arg5) a e := by
    intro a e
    rw [← hC, readCov_matrix]
    simp only [canon_cons_matrix]
    pointwise [k0_pay2, k0_pay3, k0_pay4, k0_pay5, k0_pay6, k0_pay7, k0_pay8, k0_pay9, codes]
  clear hC
  idx_vars y
  canon_tiles x h
  case piece1 =>
    idx_vars x
    pointwise [k0_pay28] at h0 h1 ⊢
    obtain rfl : y1 = x1 := Fin.ext h1
    exact (folded_row _ _ _ _ _ y0 y1 9 x0 (by omega) x0.isLt (by omega) _ (by simp only [] <;> omega)).symm
  case piece0 =>
    idx_vars x
    pointwise [k0_pay1, hc] at h0 h1 ⊢
    obtain rfl : y1 = x1 := Fin.ext h1
    exact (folded_code _ _ _ _ _ y0 y1 9 x0 (by omega) h0).symm
  case piece3 =>
    idx_vars x
    pointwise [k0_pay26] at h0 h1 ⊢
    obtain rfl : y1 = x1 := Fin.ext h1
    exact (folded_row _ _ _ _ _ y0 y1 8 x0 (by omega) x0.isLt (by omega) _ (by simp only [] <;> omega)).symm
  case piece2 =>
    idx_vars x
    pointwise [k0_pay27, hc] at h0 h1 ⊢
    obtain rfl : y1 = x1 := Fin.ext h1
    exact (folded_code _ _ _ _ _ y0 y1 8 x0 (by omega) h0).symm
  case piece5 =>
    idx_vars x
    pointwise [k0_pay24] at h0 h1 ⊢
    obtain rfl : y1 = x1 := Fin.ext h1
    exact (folded_row _ _ _ _ _ y0 y1 7 x0 (by omega) x0.isLt (by omega) _ (by simp only [] <;> omega)).symm
  case piece4 =>
    idx_vars x
    pointwise [k0_pay25, hc] at h0 h1 ⊢
    obtain rfl : y1 = x1 := Fin.ext h1
    exact (folded_code _ _ _ _ _ y0 y1 7 x0 (by omega) h0).symm
  case piece7 =>
    idx_vars x
    pointwise [k0_pay22] at h0 h1 ⊢
    obtain rfl : y1 = x1 := Fin.ext h1
    exact (folded_row _ _ _ _ _ y0 y1 6 x0 (by omega) x0.isLt (by omega) _ (by simp only [] <;> omega)).symm
  case piece6 =>
    idx_vars x
    pointwise [k0_pay23, hc] at h0 h1 ⊢
    obtain rfl : y1 = x1 := Fin.ext h1
    exact (folded_code _ _ _ _ _ y0 y1 6 x0 (by omega) h0).symm
  case piece9 =>
    idx_vars x
    pointwise [k0_pay20] at h0 h1 ⊢
    obtain rfl : y1 = x1 := Fin.ext h1
    exact (folded_row _ _ _ _ _ y0 y1 5 x0 (by omega) x0.isLt (by omega) _ (by simp only [] <;> omega)).symm
  case piece8 =>
    idx_vars x
    pointwise [k0_pay21, hc] at h0 h1 ⊢
    obtain rfl : y1 = x1 := Fin.ext h1
    exact (folded_code _ _ _ _ _ y0 y1 5 x0 (by omega) h0).symm
  case piece11 =>
    idx_vars x
    pointwise [k0_pay18] at h0 h1 ⊢
    obtain rfl : y1 = x1 := Fin.ext h1
    exact (folded_row _ _ _ _ _ y0 y1 4 x0 (by omega) x0.isLt (by omega) _ (by simp only [] <;> omega)).symm
  case piece10 =>
    idx_vars x
    pointwise [k0_pay19, hc] at h0 h1 ⊢
    obtain rfl : y1 = x1 := Fin.ext h1
    exact (folded_code _ _ _ _ _ y0 y1 4 x0 (by omega) h0).symm
  case piece13 =>
    idx_vars x
    pointwise [k0_pay16] at h0 h1 ⊢
    obtain rfl : y1 = x1 := Fin.ext h1
    exact (folded_row _ _ _ _ _ y0 y1 3 x0 (by omega) x0.isLt (by omega) _ (by simp only [] <;> omega)).symm
  case piece12 =>
    idx_vars x
    pointwise [k0_pay17, hc] at h0 h1 ⊢
    obtain rfl : y1 = x1 := Fin.ext h1
    exact (folded_code _ _ _ _ _ y0 y1 3 x0 (by omega) h0).symm
  case piece15 =>
    idx_vars x
    pointwise [k0_pay14] at h0 h1 ⊢
    obtain rfl : y1 = x1 := Fin.ext h1
    exact (folded_row _ _ _ _ _ y0 y1 2 x0 (by omega) x0.isLt (by omega) _ (by simp only [] <;> omega)).symm
  case piece14 =>
    idx_vars x
    pointwise [k0_pay15, hc] at h0 h1 ⊢
    obtain rfl : y1 = x1 := Fin.ext h1
    exact (folded_code _ _ _ _ _ y0 y1 2 x0 (by omega) h0).symm
  case piece17 =>
    idx_vars x
    pointwise [k0_pay12] at h0 h1 ⊢
    obtain rfl : y1 = x1 := Fin.ext h1
    exact (folded_row _ _ _ _ _ y0 y1 1 x0 (by omega) x0.isLt (by omega) _ (by simp only [] <;> omega)).symm
  case piece16 =>
    idx_vars x
    pointwise [k0_pay13, hc] at h0 h1 ⊢
    obtain rfl : y1 = x1 := Fin.ext h1
    exact (folded_code _ _ _ _ _ y0 y1 1 x0 (by omega) h0).symm
  case piece19 =>
    idx_vars x
    pointwise [k0_pay10] at h0 h1 ⊢
    obtain rfl : y1 = x1 := Fin.ext h1
    exact (folded_row _ _ _ _ _ y0 y1 0 x0 (by omega) x0.isLt (by omega) _ (by simp only [] <;> omega)).symm
  case piece18 =>
    idx_vars x
    pointwise [k0_pay11, hc] at h0 h1 ⊢
    obtain rfl : y1 = x1 := Fin.ext h1
    exact (folded_code _ _ _ _ _ y0 y1 0 x0 (by omega) h0).symm

end Cert.KernelIdeal.Fold
-- ==== Proof.Mlp.lean ====
/- The second region of the idealized kernel, read as a function of the arrays it is launched on: its three result
   arrays are two dense layers and one head layer over a table of hidden inputs. -/
module

public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.KernelIdeal.Mlp

open Idealize.ShloMosaic Idealize.ShloMosaic.TcCoe Idealize.SL.Sem
open Idealize.ShloMosaic.Pipeline (Dat)
open Cert.KernelIdeal Cert.KernelIdeal.Gen

/-- Whether the code that row `i` carries for column `j` is the column's own, as 1 or 0: the codes are spread over the
    columns by the product with `E`, and the column's own code is its low three bits. -/
def hot (C : IVec S16384x70 32) (E : FVec Ideal S70x560 .bf16) (i : Fin 16384) (j : Fin 560) : EReal :=
  FloatOps.sitofp (F := Ideal) .f32
    (BitVec.setWidth 32
      (BitVec.ofBool
        (decide
          (∑ q : Fin 70, (FloatOps.sitofp (F := Ideal) .bf16 (C (ix2 i q)) : EReal) * E (ix2 q j) =
            FloatOps.sitofp (F := Ideal) .f32 (IntOp.andi (BitVec.ofNat 32 (j : ℕ)) 7#32)))))

/-- The first layer before its bias: the features times the upper half of the folded table plus the one-hot codes
    times its lower half. -/
def pre1 (X : FVec Ideal S16384x560 .f32) (C : IVec S16384x70 32) (E : FVec Ideal S70x560 .bf16)
    (T : FVec Ideal S1120x512 .bf16) (i : Fin 16384) (n : Fin 512) : EReal :=
  ∑ j : Fin 560, X (ix2 i j) * T (ix2 ⟨(j : ℕ), by omega⟩ n) +
    ∑ j : Fin 560, hot C E i j * T (ix2 ⟨560 + (j : ℕ), by omega⟩ n)

/-- The second layer: the first layer's positive parts through the second matrix, plus a bias, the positive part. -/
def hid (p : Fin 512 → EReal) (b1 : Fin 512 → EReal) (U : FVec Ideal S512x256 .bf16) (b2 : Fin 256 → EReal)
    (k : Fin 256) : EReal :=
  max (∑ n : Fin 512, max (p n + b1 n) 0 * U (ix2 n k) + b2 k) 0

/-- A head of 400 columns at one index. -/
def head400 (h : Fin 256 → EReal) (H : FVec Ideal S256x400 .bf16) (b : Fin 400 → EReal) (j : Fin 400) : EReal :=
  ∑ k : Fin 256, h k * H (ix2 k j) + b j

/-- A head of 30 columns at one index. -/
def head30 (h : Fin 256 → EReal) (H : FVec Ideal S256x30 .bf16) (b : Fin 30 → EReal) (j : Fin 30) : EReal :=
  ∑ k : Fin 256, h k * H (ix2 k j) + b j

/-- The second layer's values for row `i`, from the arrays the region reads: the biases lie packed in `B`. -/
def hidden (X : FVec Ideal S16384x560 .f32) (C : IVec S16384x70 32) (E : FVec Ideal S70x560 .bf16)
    (T : FVec Ideal S1120x512 .bf16) (U : FVec Ideal S512x256 .bf16) (B : FVec Ideal S1x1598 .f32)
    (i : Fin 16384) (k : Fin 256) : EReal :=
  hid (pre1 X C E T i) (fun n => B (ix2 0 ⟨(n : ℕ), by omega⟩)) U (fun n => B (ix2 0 ⟨512 + (n : ℕ), by omega⟩)) k

variable (V : (c : Dev nD) → (b : Ref sig .tc) → Buf (Elt Ideal) ((c : Thread nD τ).loc b))

/-- The second layer's values of a run of the region. -/
abbrev hiddenOf (c : Dev nD) (i : Fin 16384) : Fin 256 → EReal :=
  hidden (V c main_v0) (V c main_v1) (V c main_v18) (V c main_v19) (V c main_v24) (V c main_v23) i

/-- The first result array. -/
def out0 (c : Dev nD) : FVec Ideal S16384x400 .f32 := fun y =>
  let B : FVec Ideal S1x1598 .f32 := V c main_v23
  head400 (hiddenOf V c (y 0)) (V c main_v25) (fun n => B (ix2 0 ⟨798 + (n : ℕ), by omega⟩)) (y 1)

/-- The second result array. -/
def out1 (c : Dev nD) : FVec Ideal S16384x400 .f32 := fun y =>
  let B : FVec Ideal S1x1598 .f32 := V c main_v23
  head400 (hiddenOf V c (y 0)) (V c main_v26) (fun n => B (ix2 0 ⟨1198 + (n : ℕ), by omega⟩)) (y 1)

/-- The third result array, four narrow heads side by side. -/
def out2 (c : Dev nD) : FVec Ideal S16384x30 .f32 := fun y =>
  let B : FVec Ideal S1x1598 .f32 := V c main_v23
  head30 (hiddenOf V c (y 0)) (V c main_v21) (fun n => B (ix2 0 ⟨768 + (n : ℕ), by omega⟩)) (y 1)

/-- The windows' block indices: the tall arrays are cut into blocks of rows, the others are read whole. -/
theorem idx : ∀ t : Fin cfg1.N, win1_0.index t = ![t.val, 0] ∧ win1_1.index t = ![t.val, 0] ∧ win1_2.index t = ![0, 0]
    ∧ win1_3.index t = ![0, 0] ∧ win1_4.index t = ![0, 0] ∧ win1_5.index t = ![0, 0] ∧ win1_6.index t = ![0, 0]
    ∧ win1_7.index t = ![0, 0] ∧ win1_8.index t = ![0, 0] ∧ win1_9.index t = ![t.val, 0]
    ∧ win1_10.index t = ![t.val, 0] ∧ win1_11.index t = ![t.val, 0] :=
  (by decide +kernel : ∀ t : Fin grid1.N, _)

/-- Window 2 is read whole. -/
theorem blk2 (c : Dev nD) (t : Fin cfg1.N) : iblk1 V c 2 t = V c main_v18 := by blk_ext! [iblk1, idx t]

/-- Window 3 is read whole. -/
theorem blk3 (c : Dev nD) (t : Fin cfg1.N) : iblk1 V c 3 t = V c main_v19 := by blk_ext! [iblk1, idx t]

/-- Window 4 is read whole. -/
theorem blk4 (c : Dev nD) (t : Fin cfg1.N) : iblk1 V c 4 t = V c main_v24 := by blk_ext! [iblk1, idx t]

/-- Window 5 is read whole. -/
theorem blk5 (c : Dev nD) (t : Fin cfg1.N) : iblk1 V c 5 t = V c main_v25 := by blk_ext! [iblk1, idx t]

/-- Window 6 is read whole. -/
theorem blk6 (c : Dev nD) (t : Fin cfg1.N) : iblk1 V c 6 t = V c main_v26 := by blk_ext! [iblk1, idx t]

/-- Window 7 is read whole. -/
theorem blk7 (c : Dev nD) (t : Fin cfg1.N) : iblk1 V c 7 t = V c main_v21 := by blk_ext! [iblk1, idx t]

/-- Window 8 is read whole. -/
theorem blk8 (c : Dev nD) (t : Fin cfg1.N) : iblk1 V c 8 t = V c main_v23 := by blk_ext! [iblk1, idx t]

/-- Window 0 is a block of 2048 rows. -/
theorem blk0 (c : Dev nD) (t : Fin cfg1.N) (r : Fin 2048) (j : Fin 560) :
    iblk1 V c 0 t (ix2 r j) = V c main_v0 (ix2 ⟨t.val * 2048 + (r : ℕ), by have ht : t.val < 8 := t.isLt; omega⟩ j) := by
  blk_ext [iblk1, idx t]

/-- Window 1 is a block of 2048 rows. -/
theorem blk1 (c : Dev nD) (t : Fin cfg1.N) (r : Fin 2048) (j : Fin 70) :
    iblk1 V c 1 t (ix2 r j) = V c main_v1 (ix2 ⟨t.val * 2048 + (r : ℕ), by have ht : t.val < 8 := t.isLt; omega⟩ j) := by
  blk_ext [iblk1, idx t]

/-- The first result array after the region. -/
theorem arr0 (c : Dev nD) : (dat1 V c).arrAt 9 cfg1.N = out0 V c := by
  refine (dat1 V c).arrAt_eq_of_covers 9 _ (by decide +kernel) fun t _ y => ?_
  blk_simp
  rw [after1_9]
  frame_out
  simp only [blk2, blk3, blk4, blk5, blk6, blk7, blk8]
  idx_vars y
  have hy : ((View.whole main_v27_0).slice (win1_9.rect t)).emb (ix2 y0 y1)
      = ix2 (⟨t.val * 2048 + (y0 : ℕ), by have ht : t.val < 8 := t.isLt; omega⟩ : Fin 16384) (y1 : Fin 400) := by
    blk_ext [idx t]
  rw [hy]
  pointwise [k1_pay1, k1_pay2, k1_pay5, k1_pay6, k1_pay7, k1_pay8, out0, head400, hiddenOf, hidden, hid, pre1, hot]
  simp only [blk0, blk1]

/-- The second result array after the region. -/
theorem arr1 (c : Dev nD) : (dat1 V c).arrAt 10 cfg1.N = out1 V c := by
  refine (dat1 V c).arrAt_eq_of_covers 10 _ (by decide +kernel) fun t _ y => ?_
  blk_simp
  rw [after1_10]
  frame_out
  simp only [blk2, blk3, blk4, blk5, blk6, blk7, blk8]
  idx_vars y
  have hy : ((View.whole main_v27_1).slice (win1_10.rect t)).emb (ix2 y0 y1)
      = ix2 (⟨t.val * 2048 + (y0 : ℕ), by have ht : t.val < 8 := t.isLt; omega⟩ : Fin 16384) (y1 : Fin 400) := by
    blk_ext [idx t]
  rw [hy]
  pointwise [k1_pay1, k1_pay3, k1_pay5, k1_pay6, k1_pay7, k1_pay8, out1, head400, hiddenOf, hidden, hid, pre1, hot]
  simp only [blk0, blk1]

/-- The third result array after the region. -/
theorem arr2 (c : Dev nD) : (dat1 V c).arrAt 11 cfg1.N = out2 V c := by
  refine (dat1 V c).arrAt_eq_of_covers 11 _ (by decide +kernel) fun t _ y => ?_
  blk_simp
  rw [after1_11]
  frame_out
  simp only [blk2, blk3, blk4, blk5, blk6, blk7, blk8]
  idx_vars y
  have hy : ((View.whole main_v27_2).slice (win1_11.rect t)).emb (ix2 y0 y1)
      = ix2 (⟨t.val * 2048 + (y0 : ℕ), by have ht : t.val < 8 := t.isLt; omega⟩ : Fin 16384) (y1 : Fin 30) := by
    blk_ext [idx t]
  rw [hy]
  pointwise [k1_pay1, k1_pay4, k1_pay5, k1_pay6, k1_pay7, k1_pay8, out2, head30, hiddenOf, hidden, hid, pre1, hot]
  simp only [blk0, blk1]

end Cert.KernelIdeal.Mlp
-- ==== Proof.Seg.lean ====
/- Stretches of a row laid one behind the other. -/
module
public import Mathlib.Data.EReal.Basic

@[expose] public section

noncomputable section

namespace Cert.Seg

/-- A row that starts with the `n` entries of `f` and goes on with `g`. -/
def seg (n : ℕ) (f : Fin n → EReal) (g : ℕ → EReal) (q : ℕ) : EReal :=
  if h : q < n then f ⟨q, h⟩ else g (q - n)

/-- An entry of the first stretch. -/
theorem seg_here {n : ℕ} (f : Fin n → EReal) (g : ℕ → EReal) (j : Fin n) : seg n f g (j : ℕ) = f j :=
  dif_pos j.isLt

/-- An entry behind the first stretch. -/
theorem seg_past {n : ℕ} (f : Fin n → EReal) (g : ℕ → EReal) (q : ℕ) : seg n f g (n + q) = g q := by
  unfold seg
  rw [dif_neg (by omega), Nat.add_sub_cancel_left]

/-- A choice between an entry of the first stretch and one behind it is the row's entry. -/
theorem dite_seg {n q : ℕ} {f : Fin n → EReal} {g : ℕ → EReal} {p : Prop} [Decidable p] {x : p → EReal} {y : ¬p → EReal}
    (hp : p ↔ q < n) (hx : ∀ (h : p) (hq : q < n), x h = f ⟨q, hq⟩) (hy : ∀ h : ¬p, y h = g (q - n)) :
    dite p x y = seg n f g q := by
  unfold seg
  by_cases h : p
  · rw [dif_pos h, dif_pos (hp.mp h)]
    exact hx h _
  · rw [dif_neg h, dif_neg (fun hq => h (hp.mpr hq))]
    exact hy h

/-- An entry of the last stretch that is looked at. -/
theorem eq_seg {n q : ℕ} {f : Fin n → EReal} {g : ℕ → EReal} {x : EReal} (hq : q < n) (hx : x = f ⟨q, hq⟩) :
    x = seg n f g q := by
  unfold seg
  rw [dif_pos hq]
  exact hx

end Cert.Seg
-- ==== Proof.Host.lean ====
/- What the operations between the two regions leave: the arrays the second region reads and the results, at an index. -/
module
public import proofs.«01_k».proof.Proof.Fold
public import proofs.«01_k».proof.Proof.Mlp
public import proofs.«01_k».proof.Proof.Seg
public import Idealize.ShloMosaic.Lib.StableHlo.ReadAt

@[expose] public section

set_option maxRecDepth 16384

noncomputable section

namespace Cert.KernelIdeal.Host

open Idealize.ShloMosaic Idealize.ShloMosaic.TcCoe Idealize.SL.Sem
open Cert.KernelIdeal Cert.KernelIdeal.Gen
open Cert.Seg (seg dite_seg eq_seg)

variable (m : (ℓ : Loc nD τ sig) → Buf (Elt Ideal) ℓ) (ρ : Dev nD → PrngReg)

/-- The sign of a word, as a word. -/
abbrev sgn (a : BitVec 32) : BitVec 32 := if a = 0 then 0 else if a.msb then -1 else 1

/-- The quotient of two words rounded down, in the printed steps. -/
abbrev fdiv (a b : BitVec 32) : BitVec 32 :=
  Scalar.select
    (IntOp.andi (IntOp.cmpi .ne (sgn a) (sgn b)) (IntOp.cmpi .ne (IntOp.remsi .host a b) 0#32))
    (IntOp.subi (IntOp.divsi .host a b) 1#32) (IntOp.divsi .host a b)

/-- The divisor of a remainder, in the printed steps: one in place of zero. -/
abbrev nz (b : BitVec 32) : BitVec 32 := Scalar.select (IntOp.cmpi .eq b 0#32) 1#32 b

/-- The remainder of two words with the divisor's sign, in the printed steps. -/
abbrev frem (a b : BitVec 32) : BitVec 32 :=
  Scalar.select
    (IntOp.andi
      (IntOp.cmpi .ne (IntOp.cmpi .slt (IntOp.remsi .host a (nz b)) 0#32) (IntOp.cmpi .slt (nz b) 0#32))
      (IntOp.cmpi .ne (IntOp.remsi .host a (nz b)) 0#32))
    (IntOp.addi (IntOp.remsi .host a (nz b)) (nz b)) (IntOp.remsi .host a (nz b))

/-- The forward a column of the one-hot half belongs to. -/
theorem fdiv56 : ∀ j : Fin 560, fdiv (BitVec.ofNat 32 (j : ℕ)) 56#32 = BitVec.ofNat 32 ((j : ℕ) / 56) := by decide +kernel

/-- The slot a column of the one-hot half belongs to. -/
theorem fdiv8 : ∀ j : Fin 560, fdiv (frem (BitVec.ofNat 32 (j : ℕ)) 56#32) 8#32 = BitVec.ofNat 32 ((j : ℕ) % 56 / 8) := by
  decide +kernel

/-- The forward a code belongs to. -/
theorem fdiv7 : ∀ r : Fin 70, fdiv (BitVec.ofNat 32 (r : ℕ)) 7#32 = BitVec.ofNat 32 ((r : ℕ) / 7) := by decide +kernel

/-- The slot a code belongs to. -/
theorem frem7 : ∀ r : Fin 70, frem (BitVec.ofNat 32 (r : ℕ)) 7#32 = BitVec.ofNat 32 ((r : ℕ) % 7) := by decide +kernel

/-- The spreading matrix before the first region, in the printed steps. -/
theorem emat (c : Dev nD) (r : Fin 70) (j : Fin 560) : (W11 m ρ c (Proc.devRef .tc main_v18) : FVec Ideal S70x560 .bf16) (ix2 r j)
    = FloatOps.uitofp (F := Ideal) .bf16 (IntOp.andi
        (IntOp.cmpi .eq (fdiv (BitVec.ofNat 32 (j : ℕ)) 56#32) (fdiv (BitVec.ofNat 32 (r : ℕ)) 7#32))
        (IntOp.cmpi .eq (fdiv (frem (BitVec.ofNat 32 (j : ℕ)) 56#32) 8#32) (frem (BitVec.ofNat 32 (r : ℕ)) 7#32))) := by
  unfold W11 W10 W9 W8 W7 W6 W5 W4 W3 W2 W1
  after_reads_at
  rfl

/-- Two words that hold small numbers are equal just when the numbers are. -/
theorem eq_small (a b : ℕ) (ha : a < 70) (hb : b < 70) :
    IntOp.cmpi .eq (BitVec.ofNat 32 a) (BitVec.ofNat 32 b) = if a = b then 1#1 else 0#1 := by
  have h : ∀ a b : Fin 70, IntOp.cmpi .eq (BitVec.ofNat 32 (a : ℕ)) (BitVec.ofNat 32 (b : ℕ)) = if (a : ℕ) = b then 1#1 else 0#1 := by
    decide +kernel
  exact h ⟨a, ha⟩ ⟨b, hb⟩

/-- The spreading matrix: 1 where the column's forward and slot are the code's, and 0 elsewhere. -/
theorem spread (c : Dev nD) (r : Fin 70) (j : Fin 560) : (V13 m ρ c main_v18 : FVec Ideal S70x560 .bf16) (ix2 r j)
    = if (j : ℕ) / 56 = (r : ℕ) / 7 ∧ (j : ℕ) % 56 / 8 = (r : ℕ) % 7 then (1 : EReal) else 0 := by
  have h : V13 m ρ c main_v18 = W11 m ρ c (Proc.devRef .tc main_v18) :=
    (W13_of m ρ c main_v18 (by decide)).trans (W12_of m ρ c main_v18 (by decide))
  rw [h]
  refine (emat m ρ c r j).trans ?_
  rw [fdiv56, fdiv7, fdiv8, frem7, eq_small _ _ (by omega) (by omega), eq_small _ _ (by omega) (by omega)]
  have h1 : (FloatOps.uitofp (F := Ideal) .bf16 1#1 : EReal) = 1 := by
    show (((1#1 : BitVec 1).toNat : ℝ) : EReal) = 1
    norm_num
  have h0 : (FloatOps.uitofp (F := Ideal) .bf16 0#1 : EReal) = 0 := by
    show (((0#1 : BitVec 1).toNat : ℝ) : EReal) = 0
    norm_num
  by_cases ha : (j : ℕ) / 56 = (r : ℕ) / 7 <;> by_cases hb : (j : ℕ) % 56 / 8 = (r : ℕ) % 7
  · rw [if_pos ha, if_pos hb, if_pos ⟨ha, hb⟩]; exact h1
  · rw [if_pos ha, if_neg hb, if_neg (fun h => hb h.2)]; exact h0
  · rw [if_neg ha, if_pos hb, if_neg (fun h => ha h.1)]; exact h0
  · rw [if_neg ha, if_neg hb, if_neg (fun h => ha h.1)]; exact h0

/-- The plain features, one row per input row. -/
theorem feats (c : Dev nD) (i : Fin 16384) (k : Fin 10) (p : Fin 56) :
    (V13 m ρ c main_v0 : FVec Ideal S16384x560 .f32) (ix2 i ⟨(k : ℕ) * 56 + (p : ℕ), by omega⟩)
      = (m ((c.tc : Thread nD τ).loc main_arg0) : FVec Ideal S16384x10x56 .f32) (ix3 i k p) := by
  have h : V13 m ρ c main_v0 = W11 m ρ c (Proc.devRef .tc main_v0) :=
    (W13_of m ρ c main_v0 (by decide)).trans (W12_of m ρ c main_v0 (by decide))
  rw [h]
  unfold W11 W10 W9 W8 W7 W6 W5 W4 W3 W2 W1
  after_reads_at

/-- The codes, one row per input row. -/
theorem slots (c : Dev nD) (i : Fin 16384) (k : Fin 10) (s : Fin 7) :
    (V13 m ρ c main_v1 : IVec S16384x70 32) (ix2 i ⟨(k : ℕ) * 7 + (s : ℕ), by omega⟩)
      = (m ((c.tc : Thread nD τ).loc main_arg1) : IVec S16384x10x7 32) (ix3 i k s) := by
  have h : V13 m ρ c main_v1 = W11 m ρ c (Proc.devRef .tc main_v1) :=
    (W13_of m ρ c main_v1 (by decide)).trans (W12_of m ρ c main_v1 (by decide))
  rw [h]
  unfold W11 W10 W9 W8 W7 W6 W5 W4 W3 W2 W1
  after_reads_at

/-- The folded table that the first region leaves. -/
theorem table (c : Dev nD) : (V13 m ρ c main_v19 : FVec Ideal S1120x512 .bf16)
    = Fold.folded (m ((c.tc : Thread nD τ).loc main_arg6)) (m ((c.tc : Thread nD τ).loc main_arg2))
        (m ((c.tc : Thread nD τ).loc main_arg3)) (m ((c.tc : Thread nD τ).loc main_arg4)) (m ((c.tc : Thread nD τ).loc main_arg5)) := by
  have h : V13 m ρ c main_v19 = (dat0 (V11 m ρ) c).arrAt 5 cfg0.N :=
    (W13_of m ρ c main_v19 (by decide)).trans (W12_arr m ρ c 5)
  refine h.trans ((Fold.arr (V11 m ρ) c).trans ?_)
  show Fold.folded (W11 m ρ c (Proc.devRef .tc main_arg6)) (W11 m ρ c (Proc.devRef .tc main_arg2))
    (W11 m ρ c (Proc.devRef .tc main_arg3)) (W11 m ρ c (Proc.devRef .tc main_arg4)) (W11 m ρ c (Proc.devRef .tc main_arg5)) = _
  rw [W11_args m ρ c main_arg6 (by decide), W11_args m ρ c main_arg2 (by decide), W11_args m ρ c main_arg3 (by decide),
    W11_args m ρ c main_arg4 (by decide), W11_args m ρ c main_arg5 (by decide)]

/-- The weights of the second layer and of the two action heads are the arguments' own. -/
theorem mats (c : Dev nD) :
    (∀ (k : Fin 512) (j : Fin 256), (V13 m ρ c main_v24 : FVec Ideal S512x256 .bf16) (ix2 k j)
        = (m ((c.tc : Thread nD τ).loc main_arg8) : FVec Ideal S512x256 .f32) (ix2 k j))
      ∧ (∀ (k : Fin 256) (j : Fin 400), (V13 m ρ c main_v25 : FVec Ideal S256x400 .bf16) (ix2 k j)
        = (m ((c.tc : Thread nD τ).loc main_arg14) : FVec Ideal S256x400 .f32) (ix2 k j))
      ∧ (∀ (k : Fin 256) (j : Fin 400), (V13 m ρ c main_v26 : FVec Ideal S256x400 .bf16) (ix2 k j)
        = (m ((c.tc : Thread nD τ).loc main_arg16) : FVec Ideal S256x400 .f32) (ix2 k j)) := by
  refine ⟨fun k j => ?_, fun k j => ?_, fun k j => ?_⟩
  · show (W13 m ρ c (Proc.devRef .tc main_v24) : FVec Ideal S512x256 .bf16) (ix2 k j) = _
    unfold W13
    after_reads_at
    rw [W12_args m ρ c main_arg8 (by decide)]
  · show (W13 m ρ c (Proc.devRef .tc main_v25) : FVec Ideal S256x400 .bf16) (ix2 k j) = _
    unfold W13
    after_reads_at
    rw [W12_args m ρ c main_arg14 (by decide)]
  · show (W13 m ρ c (Proc.devRef .tc main_v26) : FVec Ideal S256x400 .bf16) (ix2 k j) = _
    unfold W13
    after_reads_at
    rw [W12_args m ρ c main_arg16 (by decide)]

/-- The arguments are unchanged before the second pack of weights. -/
theorem upto0 (c : Dev nD) : ∀ a ∈ argRefs, StableHlo.upto hostOps1 (W12 m ρ c) 0 (Proc.devRef .tc a) = m ((c : Thread nD τ).loc a) := by
  intro a ha
  rw [StableHlo.upto_unwritten [] rfl (by simp)]
  exact W12_args m ρ c a ha

/-- The arguments are unchanged before the pack of biases. -/
theorem upto2 (c : Dev nD) : ∀ a ∈ argRefs, StableHlo.upto hostOps1 (W12 m ρ c) 2 (Proc.devRef .tc a) = m ((c : Thread nD τ).loc a) := by
  intro a ha
  rw [StableHlo.upto_unwritten [main_v20, main_v21] rfl
    (fun h => hostOps1_args a ha ((by decide : ∀ b ∈ [main_v20, main_v21], b ∈ hostOps1_W) a h))]
  exact W12_args m ρ c a ha

/-- The packed weights: the columns of the four narrow heads side by side. -/
theorem packed (c : Dev nD) (k : Fin 256) (q : Fin 30) :
    (V13 m ρ c main_v21 : FVec Ideal S256x30 .bf16) (ix2 k q)
      = (seg 8 (fun j => (m ((c.tc : Thread nD τ).loc main_arg10) : FVec Ideal S256x8 .f32) (ix2 k j)) <|
          seg 6 (fun j => (m ((c.tc : Thread nD τ).loc main_arg12) : FVec Ideal S256x6 .f32) (ix2 k j)) <|
          seg 8 (fun j => (m ((c.tc : Thread nD τ).loc main_arg18) : FVec Ideal S256x8 .f32) (ix2 k j)) <|
          seg 8 (fun j => (m ((c.tc : Thread nD τ).loc main_arg20) : FVec Ideal S256x8 .f32) (ix2 k j)) <|
          fun _ => 0) (q : ℕ) := by
  show (W13 m ρ c (Proc.devRef .tc main_v21) : FVec Ideal S256x30 .bf16) (ix2 k q) = _
  unfold W13
  after_reads_at
  rw [upto0 m ρ c main_arg10 (by decide), upto0 m ρ c main_arg12 (by decide), upto0 m ρ c main_arg18 (by decide),
    upto0 m ρ c main_arg20 (by decide)]
  iterate 3 refine dite_seg (by omega) (fun _ _ => ?_) fun _ => ?_; rfl
  exact eq_seg (by omega) rfl

/-- The packed biases, one behind the other. -/
theorem biases (c : Dev nD) (q : Fin 1598) :
    (V13 m ρ c main_v23 : FVec Ideal S1x1598 .f32) (ix2 (0 : Fin 1) q)
      = (seg 512 (fun j => (m ((c.tc : Thread nD τ).loc main_arg7) : FVec Ideal S512 .f32) (ix1 j)) <|
          seg 256 (fun j => (m ((c.tc : Thread nD τ).loc main_arg9) : FVec Ideal S256 .f32) (ix1 j)) <|
          seg 8 (fun j => (m ((c.tc : Thread nD τ).loc main_arg11) : FVec Ideal S8 .f32) (ix1 j)) <|
          seg 6 (fun j => (m ((c.tc : Thread nD τ).loc main_arg13) : FVec Ideal S6 .f32) (ix1 j)) <|
          seg 8 (fun j => (m ((c.tc : Thread nD τ).loc main_arg19) : FVec Ideal S8 .f32) (ix1 j)) <|
          seg 8 (fun j => (m ((c.tc : Thread nD τ).loc main_arg21) : FVec Ideal S8 .f32) (ix1 j)) <|
          seg 400 (fun j => (m ((c.tc : Thread nD τ).loc main_arg15) : FVec Ideal S400 .f32) (ix1 j)) <|
          seg 400 (fun j => (m ((c.tc : Thread nD τ).loc main_arg17) : FVec Ideal S400 .f32) (ix1 j)) <|
          fun _ => 0) (q : ℕ) := by
  show (W13 m ρ c (Proc.devRef .tc main_v23) : FVec Ideal S1x1598 .f32) (ix2 (0 : Fin 1) q) = _
  unfold W13
  after_reads_at
  rw [upto2 m ρ c main_arg7 (by decide), upto2 m ρ c main_arg9 (by decide), upto2 m ρ c main_arg11 (by decide), upto2 m ρ c main_arg13 (by decide), upto2 m ρ c main_arg19 (by decide), upto2 m ρ c main_arg21 (by decide), upto2 m ρ c main_arg15 (by decide), upto2 m ρ c main_arg17 (by decide)]
  iterate 7 refine dite_seg (by omega) (fun _ _ => ?_) fun _ => ?_; rfl
  exact eq_seg (by omega) rfl

/-- The narrow results are runs of columns of the second region's third array. -/
theorem cuts (c : Dev nD) (i : Fin 16384) :
    (∀ j : Fin 8, (W15 m ρ c (Proc.devRef .tc main_v28) : FVec Ideal S16384x8 .f32) (ix2 i j)
        = Mlp.out2 (V13 m ρ) c (ix2 i ⟨(j : ℕ), by omega⟩))
      ∧ (∀ j : Fin 6, (W15 m ρ c (Proc.devRef .tc main_v29) : FVec Ideal S16384x6 .f32) (ix2 i j)
        = Mlp.out2 (V13 m ρ) c (ix2 i ⟨8 + (j : ℕ), by omega⟩))
      ∧ (∀ j : Fin 8, (W15 m ρ c (Proc.devRef .tc main_v30) : FVec Ideal S16384x8 .f32) (ix2 i j)
        = Mlp.out2 (V13 m ρ) c (ix2 i ⟨8 + (6 + (j : ℕ)), by omega⟩))
      ∧ (∀ j : Fin 8, (W15 m ρ c (Proc.devRef .tc main_v31) : FVec Ideal S16384x8 .f32) (ix2 i j)
        = Mlp.out2 (V13 m ρ) c (ix2 i ⟨8 + (6 + (8 + (j : ℕ))), by omega⟩)) := by
  have h : W14 m ρ c (Proc.devRef .tc main_v27_2) = Mlp.out2 (V13 m ρ) c := (W14_arr m ρ c 11).trans (Mlp.arr2 (V13 m ρ) c)
  unfold W15
  refine ⟨fun j => ?_, fun j => ?_, fun j => ?_, fun j => ?_⟩ <;>
    (after_reads_at
     refine (congrFun h _).trans ?_
     exact congrArg (fun z : Fin 30 => Mlp.out2 (V13 m ρ) c (ix2 i z)) (Fin.ext (by simp only [] <;> omega)))

/-- A wide result is the second region's array 0. -/
theorem wide0 (c : Dev nD) : (W15 m ρ c (Proc.devRef .tc main_v27_0) : FVec Ideal S16384x400 .f32) = Mlp.out0 (V13 m ρ) c :=
  (W15_of m ρ c main_v27_0 (by decide)).trans ((W14_arr m ρ c 9).trans (Mlp.arr0 (V13 m ρ) c))

/-- A wide result is the second region's array 1. -/
theorem wide1 (c : Dev nD) : (W15 m ρ c (Proc.devRef .tc main_v27_1) : FVec Ideal S16384x400 .f32) = Mlp.out1 (V13 m ρ) c :=
  (W15_of m ρ c main_v27_1 (by decide)).trans ((W14_arr m ρ c 10).trans (Mlp.arr1 (V13 m ρ) c))

end Cert.KernelIdeal.Host
-- ==== Proof.Codes.lean ====
/- The table of codes, slot by slot: which lanes a slot fills, what stands there, and zero elsewhere. -/
module
public import proofs.«01_k».proof.Proof.Fold
public import proofs.«01_k».proof.Proof.Seg

@[expose] public section

set_option maxRecDepth 16384

noncomputable section

namespace Cert.KernelIdeal.Fold

open Idealize.ShloMosaic Idealize.ShloMosaic.TcCoe Idealize.SL.Sem
open Cert.KernelIdeal Cert.KernelIdeal.Gen
open Cert.Seg (seg)

/-- The slot of a frame's codes that fills a lane of the frame's 168 embedding lanes. -/
def slot (e : Fin 168) : Fin 7 :=
  if (e : ℕ) < 64 then 0 else if (e : ℕ) < 68 then 1 else if (e : ℕ) < 80 then 2 else if (e : ℕ) < 144 then 3
  else if (e : ℕ) < 148 then 4 else if (e : ℕ) < 160 then 5 else 6

/-- The slot as a number. -/
theorem slot_val (e : Fin 168) : (slot e : ℕ) = if (e : ℕ) < 64 then 0 else if (e : ℕ) < 68 then 1 else if (e : ℕ) < 80 then 2
    else if (e : ℕ) < 144 then 3 else if (e : ℕ) < 148 then 4 else if (e : ℕ) < 160 then 5 else 6 := by
  unfold slot
  split_ifs <;> rfl

variable (A : FVec Ideal S400x64 .f32) (J : FVec Ideal S8x4 .f32) (R : FVec Ideal S26x12 .f32) (G : FVec Ideal S32x8 .f32)

/-- A row of another slot than the lane's holds zero. -/
theorem codes_off (a : Fin 56) (e : Fin 168) (s : Fin 7) (v : ℕ) (hv : v < 8) (ha : (a : ℕ) = 8 * s + v) (h : s ≠ slot e) :
    codes A J R G a e = 0 := by
  have hs : (s : ℕ) ≠ (slot e : ℕ) := fun h' => h (Fin.ext h')
  have h7 : (s : ℕ) < 7 := s.isLt
  have he : (e : ℕ) < 168 := e.isLt
  rw [slot_val] at hs
  unfold codes
  rw [dif_neg (by split_ifs at hs <;> omega), dif_neg (by split_ifs at hs <;> omega), dif_neg (by split_ifs at hs <;> omega),
    dif_neg (by split_ifs at hs <;> omega), dif_neg (by split_ifs at hs <;> omega), dif_neg (by split_ifs at hs <;> omega),
    dif_neg (by split_ifs at hs <;> omega)]

/-- The slots' lanes lie one behind the other. -/
theorem slot_lanes (e : Fin 168) : ((e : ℕ) < 64 ∧ slot e = 0) ∨ (64 ≤ (e : ℕ) ∧ (e : ℕ) < 68 ∧ slot e = 1)
    ∨ (68 ≤ (e : ℕ) ∧ (e : ℕ) < 80 ∧ slot e = 2) ∨ (80 ≤ (e : ℕ) ∧ (e : ℕ) < 144 ∧ slot e = 3)
    ∨ (144 ≤ (e : ℕ) ∧ (e : ℕ) < 148 ∧ slot e = 4) ∨ (148 ≤ (e : ℕ) ∧ (e : ℕ) < 160 ∧ slot e = 5)
    ∨ (160 ≤ (e : ℕ) ∧ (e : ℕ) < 168 ∧ slot e = 6) := by
  have hs := slot_val e
  have he := e.isLt
  simp only [Fin.ext_iff]
  show _ ∧ (slot e : ℕ) = 0 ∨ _ ∧ _ ∧ (slot e : ℕ) = 1 ∨ _ ∧ _ ∧ (slot e : ℕ) = 2 ∨ _ ∧ _ ∧ (slot e : ℕ) = 3
    ∨ _ ∧ _ ∧ (slot e : ℕ) = 4 ∨ _ ∧ _ ∧ (slot e : ℕ) = 5 ∨ _ ∧ _ ∧ (slot e : ℕ) = 6
  rw [hs]
  split_ifs <;> omega

/-- A frame's embedding lanes in the rows of its own codes `v`: the tables' rows that the codes name, one behind the
    other. -/
theorem codes_own (v : Fin 7 → ℕ) (hv : ∀ s, v s < 8) (a : Fin 56) (e : Fin 168) (ha : (a : ℕ) = 8 * (slot e : ℕ) + v (slot e)) :
    codes A J R G a e
      = (seg 64 (fun j => A (ix2 ⟨v 0, Nat.lt_of_lt_of_le (hv 0) (by decide)⟩ j)) <|
          seg 4 (fun j => J (ix2 ⟨v 1, Nat.lt_of_lt_of_le (hv 1) (by decide)⟩ j)) <|
          seg 12 (fun j => R (ix2 ⟨v 2, Nat.lt_of_lt_of_le (hv 2) (by decide)⟩ j)) <|
          seg 64 (fun j => A (ix2 ⟨v 3, Nat.lt_of_lt_of_le (hv 3) (by decide)⟩ j)) <|
          seg 4 (fun j => J (ix2 ⟨v 4, Nat.lt_of_lt_of_le (hv 4) (by decide)⟩ j)) <|
          seg 12 (fun j => R (ix2 ⟨v 5, Nat.lt_of_lt_of_le (hv 5) (by decide)⟩ j)) <|
          seg 8 (fun j => G (ix2 ⟨v 6, Nat.lt_of_lt_of_le (hv 6) (by decide)⟩ j)) <|
          fun _ => 0) (e : ℕ) := by
  have h := slot_lanes e
  have hv' := hv (slot e)
  rcases h with h | h | h | h | h | h | h <;>
    (simp only [h] at ha hv'
     unfold codes seg
     conv_lhs =>
       repeat rewrite [dif_neg (by omega)]
       rewrite [dif_pos (by omega)]
     conv_rhs =>
       repeat rewrite [dif_neg (by omega)]
       rewrite [dif_pos (by omega)]
     congr 2 <;> exact Fin.ext (by simp only [] <;> omega))

end Cert.KernelIdeal.Fold
-- ==== Proof.Equation.lean ====
/- The first layer through the folded table is the first layer over the whole input row. -/
module
public import proofs.«01_k».proof.Proof.Mlp
public import proofs.«01_k».proof.Proof.Codes

@[expose] public section

set_option maxRecDepth 16384

noncomputable section

namespace Cert.KernelIdeal.Equation

open Idealize.ShloMosaic Idealize.ShloMosaic.TcCoe Idealize.SL.Sem
open Cert.KernelIdeal Cert.KernelIdeal.Gen Cert.KernelIdeal.Mlp Cert.KernelIdeal.Fold

/-- The low three bits of a column's number, as an integer. -/
theorem low3 : ∀ j : Fin 560, (IntOp.andi (BitVec.ofNat 32 (j : ℕ)) 7#32).toInt = ((j : ℕ) % 8 : ℕ) := by decide +kernel

/-- The value of a word below eight, read with its sign. -/
theorem small (c : BitVec 32) (hc : c.toNat < 8) : c.toInt = (c.toNat : ℤ) :=
  BitVec.toInt_eq_toNat_of_lt (by omega)

/-- A truth value widened to a word and read as a number is 1 or 0. -/
theorem flag (p : Prop) [Decidable p] :
    (FloatOps.sitofp (F := Ideal) .f32 (BitVec.setWidth 32 (BitVec.ofBool (decide p))) : EReal) = if p then 1 else 0 := by
  by_cases h : p
  · rw [if_pos h, decide_eq_true h]
    show (((BitVec.setWidth 32 (BitVec.ofBool true)).toInt : ℝ) : EReal) = 1
    rw [show (BitVec.setWidth 32 (BitVec.ofBool true)).toInt = 1 from by decide]
    norm_num
  · rw [if_neg h, decide_eq_false h]
    show (((BitVec.setWidth 32 (BitVec.ofBool false)).toInt : ℝ) : EReal) = 0
    rw [show (BitVec.setWidth 32 (BitVec.ofBool false)).toInt = 0 from by decide]
    norm_num

variable (X : FVec Ideal S16384x560 .f32) (C : IVec S16384x70 32) (E : FVec Ideal S70x560 .bf16) (W : FVec Ideal S2240x512 .f32)
  (A : FVec Ideal S400x64 .f32) (J : FVec Ideal S8x4 .f32) (R : FVec Ideal S26x12 .f32) (G : FVec Ideal S32x8 .f32)

/-- The column of forward `k`, slot `s` and code `v` holds 1 when the row's code there is `v`, and 0 otherwise. -/
theorem hot_eq (hE : ∀ (r : Fin 70) (j : Fin 560), E (ix2 r j)
      = if (j : ℕ) / 56 = (r : ℕ) / 7 ∧ (j : ℕ) % 56 / 8 = (r : ℕ) % 7 then (1 : EReal) else 0)
    (i : Fin 16384) (c : BitVec 32) (hc : c.toNat < 8) (j : Fin 560) (k : Fin 10) (s : Fin 7) (v : Fin 8)
    (hC : C (ix2 i ⟨(k : ℕ) * 7 + (s : ℕ), by omega⟩) = c) (hj : (j : ℕ) = (k : ℕ) * 56 + ((s : ℕ) * 8 + (v : ℕ))) :
    hot C E i j = if c.toNat = (v : ℕ) then 1 else 0 := by
  have hsum : ∑ q : Fin 70, (FloatOps.sitofp (F := Ideal) .bf16 (C (ix2 i q)) : EReal) * E (ix2 q j)
      = (((c.toNat : ℤ) : ℝ) : EReal) := by
    rw [Finset.sum_eq_single (⟨(k : ℕ) * 7 + (s : ℕ), by omega⟩ : Fin 70)]
    · rw [hC, hE, if_pos ⟨by simp only []; omega, by simp only []; omega⟩, mul_one]
      show ((c.toInt : ℝ) : EReal) = _
      rw [small c hc]
    · intro q _ hq
      rw [hE, if_neg, mul_zero]
      rintro ⟨h0, h1⟩
      exact hq (Fin.ext (by simp only []; omega))
    · intro h
      exact absurd (Finset.mem_univ _) h
  unfold hot
  rw [flag, hsum]
  show (if (((c.toNat : ℤ) : ℝ) : EReal) = (((IntOp.andi (BitVec.ofNat 32 (j : ℕ)) 7#32).toInt : ℝ) : EReal) then (1 : EReal) else 0) = _
  rw [low3]
  refine if_congr ?_ rfl rfl
  rw [EReal.coe_eq_coe_iff, Int.cast_inj, Nat.cast_inj]
  omega

/-- The first layer over the folded table is the sum over all 2240 lanes of the input row. -/
theorem first_layer (hE : ∀ (r : Fin 70) (j : Fin 560), E (ix2 r j)
      = if (j : ℕ) / 56 = (r : ℕ) / 7 ∧ (j : ℕ) % 56 / 8 = (r : ℕ) % 7 then (1 : EReal) else 0)
    (i : Fin 16384) (n : Fin 512) (f : Fin 10 → Fin 56 → EReal) (d : Fin 10 → Fin 7 → BitVec 32) (hd : ∀ k s, (d k s).toNat < 8)
    (hX : ∀ (k : Fin 10) (p : Fin 56), X (ix2 i ⟨(k : ℕ) * 56 + (p : ℕ), by omega⟩) = f k p)
    (hC : ∀ (k : Fin 10) (s : Fin 7), C (ix2 i ⟨(k : ℕ) * 7 + (s : ℕ), by omega⟩) = d k s)
    (x : Fin 2240 → EReal)
    (hf : ∀ (k : Fin 10) (p : Fin 56), x ⟨(k : ℕ) * 224 + (p : ℕ), by omega⟩ = f k p)
    (he : ∀ (k : Fin 10) (e : Fin 168), x ⟨(k : ℕ) * 224 + (56 + (e : ℕ)), by omega⟩
      = codes A J R G ⟨8 * (slot e : ℕ) + (d k (slot e)).toNat, by have := hd k (slot e); omega⟩ e) :
    pre1 X C E (folded W A J R G) i n = ∑ q : Fin 2240, x q * W (ix2 q n) := by
  have hup : ∑ j : Fin 560, X (ix2 i j) * folded W A J R G (ix2 ⟨(j : ℕ), by omega⟩ n)
      = ∑ k : Fin 10, ∑ p : Fin 56, f k p * W (ix2 ⟨(k : ℕ) * 224 + (p : ℕ), by omega⟩ n) := by
    rw [Fin.sum_univ_tiles 10 56 rfl]
    refine Finset.sum_congr rfl fun k _ => Finset.sum_congr rfl fun p _ => ?_
    rw [hX]
    exact congrArg (f k p * ·) (folded_row W A J R G _ n k p k.isLt p.isLt rfl _ rfl)
  have hlow : ∑ j : Fin 560, hot C E i j * folded W A J R G (ix2 ⟨560 + (j : ℕ), by omega⟩ n)
      = ∑ k : Fin 10, ∑ e : Fin 168, codes A J R G ⟨8 * (slot e : ℕ) + (d k (slot e)).toNat, by have := hd k (slot e); omega⟩ e
          * W (ix2 ⟨(k : ℕ) * 224 + (56 + (e : ℕ)), by omega⟩ n) := by
    rw [Fin.sum_univ_tiles 10 56 rfl]
    refine Finset.sum_congr rfl fun k _ => ?_
    rw [Fin.sum_univ_tiles 7 8 rfl]
    have hrow : ∀ s : Fin 7, (∑ v : Fin 8, hot C E i ⟨(k : ℕ) * 56 + ((s : ℕ) * 8 + (v : ℕ)), by omega⟩
          * folded W A J R G (ix2 ⟨560 + ((k : ℕ) * 56 + ((s : ℕ) * 8 + (v : ℕ))), by omega⟩ n))
        = ∑ e : Fin 168, codes A J R G ⟨8 * (s : ℕ) + (d k s).toNat, by have := hd k s; omega⟩ e
            * W (ix2 ⟨(k : ℕ) * 224 + (56 + (e : ℕ)), by omega⟩ n) := by
      intro s
      rw [Finset.sum_eq_single (⟨(d k s).toNat, hd k s⟩ : Fin 8)]
      · rw [hot_eq C E hE i (d k s) (hd k s) _ k s ⟨(d k s).toNat, hd k s⟩ (hC k s) rfl, if_pos rfl, one_mul]
        rw [folded_code W A J R G _ n k ⟨8 * (s : ℕ) + (d k s).toNat, by have := hd k s; omega⟩ k.isLt (by simp only []; omega)]
        refine Finset.sum_congr rfl fun e _ => ?_
        refine congrArg (codes A J R G _ e * ·) (congrArg (fun q : Fin 2240 => W (ix2 q n)) (Fin.ext ?_))
        show (k : ℕ) * 224 + 56 + (e : ℕ) = (k : ℕ) * 224 + (56 + (e : ℕ))
        omega
      · intro v _ hv
        rw [hot_eq C E hE i (d k s) (hd k s) _ k s v (hC k s) rfl, if_neg, zero_mul]
        exact fun h => hv (Fin.ext h.symm)
      · intro h
        exact absurd (Finset.mem_univ _) h
    refine (Finset.sum_congr rfl fun s _ => hrow s).trans ?_
    rw [Finset.sum_comm]
    refine Finset.sum_congr rfl fun e _ => ?_
    rw [Finset.sum_eq_single (slot e)]
    · intro s _ hs
      rw [codes_off A J R G _ e s (d k s).toNat (hd k s) rfl hs, zero_mul]
    · intro h
      exact absurd (Finset.mem_univ _) h
  unfold pre1
  rw [hup, hlow, ← Finset.sum_add_distrib, Fin.sum_univ_tiles 10 224 rfl]
  refine Finset.sum_congr rfl fun k _ => ?_
  refine Eq.trans ?_ (Fin.sum_univ_two_halves 56 168 rfl _).symm
  refine congrArg₂ (· + ·) (Finset.sum_congr rfl fun p _ => ?_) (Finset.sum_congr rfl fun e _ => ?_)
  · rw [← hf]
  · rw [← he]

end Cert.KernelIdeal.Equation
-- ==== Proof.Take.lean ====
/- The seven table look-ups of the reference, read at an index. -/
module
public import proofs.«01_k».proof.Proof.Gen.ReferenceIdeal.Read
public import proofs.«01_k».proof.Proof.Mlp

@[expose] public section

set_option maxRecDepth 16384

noncomputable section

namespace Cert.ReferenceIdeal.Take

open Idealize.ShloMosaic Idealize.ShloMosaic.TcCoe Idealize.SL.Sem
open Cert.ReferenceIdeal Cert.ReferenceIdeal.Gen Cert.ReferenceIdeal.Read

/-- The dimensions of a gather of whole rows of a table, one row per entry of an array of row numbers. -/
def rowsDims (N C B T : ℕ)
    (wf : GatherDims.WF ⟨2, ![N, C]⟩ ⟨3, ![B, T, 1]⟩ ⟨3, ![B, T, C]⟩ [2] [0] [] [0] [] 2 ![1, C]) :
    GatherDims ⟨2, ![N, C]⟩ ⟨3, ![B, T, 1]⟩ ⟨3, ![B, T, C]⟩ where
  offsetDims := [2]
  collapsedSliceDims := [0]
  operandBatchingDims := []
  startIndicesBatchingDims := []
  startIndexMap := [0]
  indexVectorDim := 2
  sliceSizes := ![1, C]
  wf := wf

/-- A gather of rows at an index: the table's row that the row number names, held inside the table. -/
theorem rows {α : Type} {N C B T w : ℕ} (hN : 0 < N)
    (wf : GatherDims.WF ⟨2, ![N, C]⟩ ⟨3, ![B, T, 1]⟩ ⟨3, ![B, T, C]⟩ [2] [0] [] [0] [] 2 ![1, C])
    (x : (⟨2, ![N, C]⟩ : Shape).Idx → α) (idx : IVec ⟨3, ![B, T, 1]⟩ w) (i : Fin B) (k : Fin T) (e : Fin C) :
    Host.gather (rowsDims N C B T wf) x idx (ix3 i k e)
      = x (ix2 ⟨min (idx (ix3 i k (0 : Fin 1))).toInt.toNat (N - 1), by omega⟩ e) := by
  unfold Host.gather
  congr 1
  funext a
  refine Fin.ext ?_
  show (rowsDims N C B T wf).start (ix3 i k e) idx a + (rowsDims N C B T wf).batchCoord (ix3 i k e) a
      + (rowsDims N C B T wf).offCoord (ix3 i k e) a = _
  rw [GatherDims.batchCoord_eq_zero _ _ _ (fun h => by simp [rowsDims] at h)]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, by simp⟩ : Fin (⟨2, ![N, C]⟩ : Shape).rank) ∈ (rowsDims N C B T wf).startIndexMap from List.mem_singleton.mpr rfl)]
    have hsi : (rowsDims N C B T wf).siIdx (ix3 i k e) ⟨List.idxOf (0 : Fin 2) (rowsDims N C B T wf).startIndexMap,
        List.idxOf_lt_length_iff.2 (List.mem_singleton.mpr rfl)⟩ = ix3 i k (0 : Fin 1) := by
      funext b; refine Fin.ext ?_
      match b with
      | ⟨0, _⟩ => rfl
      | ⟨1, _⟩ => rfl
      | ⟨2, _⟩ => rfl
    have hsi' := congrArg idx hsi
    exact congrArg (fun b : BitVec w => min b.toInt.toNat (N - 1)) hsi'
  | ⟨1, _⟩ =>
    have hs : (rowsDims N C B T wf).start (ix3 i k e) idx ⟨1, by simp⟩ = 0 := by
      unfold GatherDims.start
      rw [dif_neg (fun h => by simp [rowsDims] at h)]
    rw [hs]
    simp only [Nat.zero_add, Nat.add_zero]
    unfold GatherDims.offCoord
    rw [dif_pos ((GatherDims.mem_sKept _ _).mpr ⟨fun h => by simp [rowsDims] at h, fun h => by simp [rowsDims] at h⟩)]
    rfl

/-- A row number below eight is kept by the step that counts negative row numbers from the table's end. -/
theorem kept (c n : BitVec 32) (hc : c.toNat < 8) :
    Scalar.select (IntOp.cmpi .slt c 0#32) (IntOp.addi c n) c = c := by
  have h0 : IntOp.cmpi .slt c 0#32 = 0#1 := by
    have h : ∀ v : Fin 8, IntOp.cmpi .slt (BitVec.ofNat 32 (v : ℕ)) 0#32 = 0#1 := by decide
    have := h ⟨c.toNat, hc⟩
    simpa using this
  rw [h0]
  rfl

/-- The look-up of a row number below eight in a table of at least eight rows: the test that the number lies
    in the table holds, the number is not moved, and the table's own row is read. -/
theorem look (c n top : BitVec 32) (hc : c.toNat < 8)
    (ht : ∀ v : Fin 8, IntOp.cmpi .sle (BitVec.ofNat 32 (v : ℕ)) top = 1#1) {M L : ℕ} (hM : 8 ≤ M) (hL : L = M - 1) (f : Fin M → EReal) (z : EReal)
    (hb : min (BitVec.toInt (Scalar.select (IntOp.cmpi .slt c 0#32) (IntOp.addi c n) c)).toNat L < M) :
    Scalar.select
      (Finset.fold IntOp.andi 1#1
        (fun _ : Fin 1 => IntOp.andi
          (IntOp.cmpi .sge (Scalar.select (IntOp.cmpi .slt c 0#32) (IntOp.addi c n) c) 0#32)
          (IntOp.cmpi .sle (Scalar.select (IntOp.cmpi .slt c 0#32) (IntOp.addi c n) c) top)) Finset.univ)
      (f ⟨min (BitVec.toInt (Scalar.select (IntOp.cmpi .slt c 0#32) (IntOp.addi c n) c)).toNat L, hb⟩) z
      = f ⟨c.toNat, Nat.lt_of_lt_of_le hc hM⟩ := by
  simp only [kept c n hc]
  have h0 : IntOp.cmpi .sge c 0#32 = 1#1 := by
    have h : ∀ v : Fin 8, IntOp.cmpi .sge (BitVec.ofNat 32 (v : ℕ)) 0#32 = 1#1 := by decide
    have := h ⟨c.toNat, hc⟩
    simpa using this
  have h1 : IntOp.cmpi .sle c top = 1#1 := by
    have := ht ⟨c.toNat, hc⟩
    simpa using this
  have hi : c.toInt.toNat = c.toNat := by
    rw [BitVec.toInt_eq_toNat_of_lt (by omega)]
    rfl
  rw [h0, h1]
  have hr : min c.toInt.toNat L = c.toNat := by rw [hi]; omega
  have hf : Finset.fold IntOp.andi 1#1 (fun _ : Fin 1 => IntOp.andi 1#1 1#1) Finset.univ = 1#1 := by decide
  rw [hf]
  refine Eq.trans ?_ (congrArg f (Fin.ext hr : (⟨min c.toInt.toNat L, by omega⟩ : Fin M) = ⟨c.toNat, by omega⟩))
  rfl

variable (x1 : IVec S16384x10x7 32) (x2 : FVec Ideal S400x64 .f32) (x3 : FVec Ideal S8x4 .f32)
  (x4 : FVec Ideal S26x12 .f32) (x5 : FVec Ideal S32x8 .f32)

/-- The look-up of the first player's action: the table's row that code 0 of the frame names. -/
theorem take0 (h : ∀ i k s, (x1 (ix3 i k s)).toNat < 8) (i : Fin 16384) (k : Fin 10) (e : Fin 64) :
    (val_main_v2 (F := Ideal) x1 x2 : FVec Ideal S16384x10x64 .f32) (ix3 i k e)
      = x2 (ix2 ⟨(x1 (ix3 i k (0 : Fin 7))).toNat, Nat.lt_of_lt_of_le (h i k 0) (by decide)⟩ e) := by
  have hg : val_main_call0_v13 (F := Ideal) x1 x2 (ix3 i k e)
      = x2 (ix2 ⟨min ((val_main_call0_v5 (F := Ideal) x1) (ix3 i k (0 : Fin 1))).toInt.toNat (400 - 1), by omega⟩ e) :=
    rows (by decide) _ x2 (val_main_call0_v5 (F := Ideal) x1) i k e
  pointwise [val_main_v2, hg,
    val_main_call0_v14, val_main_call0_v12, val_main_call0_v11, val_main_call0_v10, val_main_call0_v9,
    val_main_call0_v8, val_main_call0_v7, val_main_call0_v6, val_main_call0_v5, val_main_call0_v4,
    val_main_call0_v3, val_main_call0_v2, val_main_call0_v1, val_main_call0_v0, val_main_v1, val_main_v0,
    val_main_call0_c, val_main_call0_c_0, val_main_call0_c_1, val_main_call0_c_2, val_main_call0_c_3]
  exact look _ _ 399#32 (h i k 0) (by decide) (by decide) rfl (fun r : Fin 400 => (x2 (ix2 r e) : EReal)) _ _

/-- The look-up of the first player's jumps: the table's row that code 1 of the frame names. -/
theorem take1 (h : ∀ i k s, (x1 (ix3 i k s)).toNat < 8) (i : Fin 16384) (k : Fin 10) (e : Fin 4) :
    (val_main_v5 (F := Ideal) x1 x3 : FVec Ideal S16384x10x4 .f32) (ix3 i k e)
      = x3 (ix2 ⟨(x1 (ix3 i k (1 : Fin 7))).toNat, Nat.lt_of_lt_of_le (h i k 1) (by decide)⟩ e) := by
  have hg : val_main_call1_v13 (F := Ideal) x1 x3 (ix3 i k e)
      = x3 (ix2 ⟨min ((val_main_call1_v5 (F := Ideal) x1) (ix3 i k (0 : Fin 1))).toInt.toNat (8 - 1), by omega⟩ e) :=
    rows (by decide) _ x3 (val_main_call1_v5 (F := Ideal) x1) i k e
  pointwise [val_main_v5, hg,
    val_main_call1_v14, val_main_call1_v12, val_main_call1_v11, val_main_call1_v10, val_main_call1_v9,
    val_main_call1_v8, val_main_call1_v7, val_main_call1_v6, val_main_call1_v5, val_main_call1_v4,
    val_main_call1_v3, val_main_call1_v2, val_main_call1_v1, val_main_call1_v0, val_main_v4, val_main_v3,
    val_main_call1_c, val_main_call1_c_0, val_main_call1_c_1, val_main_call1_c_2, val_main_call1_c_3]
  exact look _ _ 7#32 (h i k 1) (by decide) (by decide) rfl (fun r : Fin 8 => (x3 (ix2 r e) : EReal)) _ _

/-- The look-up of the first player's character: the table's row that code 2 of the frame names. -/
theorem take2 (h : ∀ i k s, (x1 (ix3 i k s)).toNat < 8) (i : Fin 16384) (k : Fin 10) (e : Fin 12) :
    (val_main_v8 (F := Ideal) x1 x4 : FVec Ideal S16384x10x12 .f32) (ix3 i k e)
      = x4 (ix2 ⟨(x1 (ix3 i k (2 : Fin 7))).toNat, Nat.lt_of_lt_of_le (h i k 2) (by decide)⟩ e) := by
  have hg : val_main_call2_v13 (F := Ideal) x1 x4 (ix3 i k e)
      = x4 (ix2 ⟨min ((val_main_call2_v5 (F := Ideal) x1) (ix3 i k (0 : Fin 1))).toInt.toNat (26 - 1), by omega⟩ e) :=
    rows (by decide) _ x4 (val_main_call2_v5 (F := Ideal) x1) i k e
  pointwise [val_main_v8, hg,
    val_main_call2_v14, val_main_call2_v12, val_main_call2_v11, val_main_call2_v10, val_main_call2_v9,
    val_main_call2_v8, val_main_call2_v7, val_main_call2_v6, val_main_call2_v5, val_main_call2_v4,
    val_main_call2_v3, val_main_call2_v2, val_main_call2_v1, val_main_call2_v0, val_main_v7, val_main_v6,
    val_main_call2_c, val_main_call2_c_0, val_main_call2_c_1, val_main_call2_c_2, val_main_call2_c_3]
  exact look _ _ 25#32 (h i k 2) (by decide) (by decide) rfl (fun r : Fin 26 => (x4 (ix2 r e) : EReal)) _ _

/-- The look-up of the second player's action: the table's row that code 3 of the frame names. -/
theorem take3 (h : ∀ i k s, (x1 (ix3 i k s)).toNat < 8) (i : Fin 16384) (k : Fin 10) (e : Fin 64) :
    (val_main_v11 (F := Ideal) x1 x2 : FVec Ideal S16384x10x64 .f32) (ix3 i k e)
      = x2 (ix2 ⟨(x1 (ix3 i k (3 : Fin 7))).toNat, Nat.lt_of_lt_of_le (h i k 3) (by decide)⟩ e) := by
  have hg : val_main_call3_v13 (F := Ideal) x1 x2 (ix3 i k e)
      = x2 (ix2 ⟨min ((val_main_call3_v5 (F := Ideal) x1) (ix3 i k (0 : Fin 1))).toInt.toNat (400 - 1), by omega⟩ e) :=
    rows (by decide) _ x2 (val_main_call3_v5 (F := Ideal) x1) i k e
  pointwise [val_main_v11, hg,
    val_main_call3_v14, val_main_call3_v12, val_main_call3_v11, val_main_call3_v10, val_main_call3_v9,
    val_main_call3_v8, val_main_call3_v7, val_main_call3_v6, val_main_call3_v5, val_main_call3_v4,
    val_main_call3_v3, val_main_call3_v2, val_main_call3_v1, val_main_call3_v0, val_main_v10, val_main_v9,
    val_main_call3_c, val_main_call3_c_0, val_main_call3_c_1, val_main_call3_c_2, val_main_call3_c_3]
  exact look _ _ 399#32 (h i k 3) (by decide) (by decide) rfl (fun r : Fin 400 => (x2 (ix2 r e) : EReal)) _ _

/-- The look-up of the second player's jumps: the table's row that code 4 of the frame names. -/
theorem take4 (h : ∀ i k s, (x1 (ix3 i k s)).toNat < 8) (i : Fin 16384) (k : Fin 10) (e : Fin 4) :
    (val_main_v14 (F := Ideal) x1 x3 : FVec Ideal S16384x10x4 .f32) (ix3 i k e)
      = x3 (ix2 ⟨(x1 (ix3 i k (4 : Fin 7))).toNat, Nat.lt_of_lt_of_le (h i k 4) (by decide)⟩ e) := by
  have hg : val_main_call4_v13 (F := Ideal) x1 x3 (ix3 i k e)
      = x3 (ix2 ⟨min ((val_main_call4_v5 (F := Ideal) x1) (ix3 i k (0 : Fin 1))).toInt.toNat (8 - 1), by omega⟩ e) :=
    rows (by decide) _ x3 (val_main_call4_v5 (F := Ideal) x1) i k e
  pointwise [val_main_v14, hg,
    val_main_call4_v14, val_main_call4_v12, val_main_call4_v11, val_main_call4_v10, val_main_call4_v9,
    val_main_call4_v8, val_main_call4_v7, val_main_call4_v6, val_main_call4_v5, val_main_call4_v4,
    val_main_call4_v3, val_main_call4_v2, val_main_call4_v1, val_main_call4_v0, val_main_v13, val_main_v12,
    val_main_call4_c, val_main_call4_c_0, val_main_call4_c_1, val_main_call4_c_2, val_main_call4_c_3]
  exact look _ _ 7#32 (h i k 4) (by decide) (by decide) rfl (fun r : Fin 8 => (x3 (ix2 r e) : EReal)) _ _

/-- The look-up of the second player's character: the table's row that code 5 of the frame names. -/
theorem take5 (h : ∀ i k s, (x1 (ix3 i k s)).toNat < 8) (i : Fin 16384) (k : Fin 10) (e : Fin 12) :
    (val_main_v17 (F := Ideal) x1 x4 : FVec Ideal S16384x10x12 .f32) (ix3 i k e)
      = x4 (ix2 ⟨(x1 (ix3 i k (5 : Fin 7))).toNat, Nat.lt_of_lt_of_le (h i k 5) (by decide)⟩ e) := by
  have hg : val_main_call5_v13 (F := Ideal) x1 x4 (ix3 i k e)
      = x4 (ix2 ⟨min ((val_main_call5_v5 (F := Ideal) x1) (ix3 i k (0 : Fin 1))).toInt.toNat (26 - 1), by omega⟩ e) :=
    rows (by decide) _ x4 (val_main_call5_v5 (F := Ideal) x1) i k e
  pointwise [val_main_v17, hg,
    val_main_call5_v14, val_main_call5_v12, val_main_call5_v11, val_main_call5_v10, val_main_call5_v9,
    val_main_call5_v8, val_main_call5_v7, val_main_call5_v6, val_main_call5_v5, val_main_call5_v4,
    val_main_call5_v3, val_main_call5_v2, val_main_call5_v1, val_main_call5_v0, val_main_v16, val_main_v15,
    val_main_call5_c, val_main_call5_c_0, val_main_call5_c_1, val_main_call5_c_2, val_main_call5_c_3]
  exact look _ _ 25#32 (h i k 5) (by decide) (by decide) rfl (fun r : Fin 26 => (x4 (ix2 r e) : EReal)) _ _

/-- The look-up of the stage: the table's row that code 6 of the frame names. -/
theorem take6 (h : ∀ i k s, (x1 (ix3 i k s)).toNat < 8) (i : Fin 16384) (k : Fin 10) (e : Fin 8) :
    (val_main_v20 (F := Ideal) x1 x5 : FVec Ideal S16384x10x8 .f32) (ix3 i k e)
      = x5 (ix2 ⟨(x1 (ix3 i k (6 : Fin 7))).toNat, Nat.lt_of_lt_of_le (h i k 6) (by decide)⟩ e) := by
  have hg : val_main_call6_v13 (F := Ideal) x1 x5 (ix3 i k e)
      = x5 (ix2 ⟨min ((val_main_call6_v5 (F := Ideal) x1) (ix3 i k (0 : Fin 1))).toInt.toNat (32 - 1), by omega⟩ e) :=
    rows (by decide) _ x5 (val_main_call6_v5 (F := Ideal) x1) i k e
  pointwise [val_main_v20, hg,
    val_main_call6_v14, val_main_call6_v12, val_main_call6_v11, val_main_call6_v10, val_main_call6_v9,
    val_main_call6_v8, val_main_call6_v7, val_main_call6_v6, val_main_call6_v5, val_main_call6_v4,
    val_main_call6_v3, val_main_call6_v2, val_main_call6_v1, val_main_call6_v0, val_main_v19, val_main_v18,
    val_main_call6_c, val_main_call6_c_0, val_main_call6_c_1, val_main_call6_c_2, val_main_call6_c_3]
  exact look _ _ 31#32 (h i k 6) (by decide) (by decide) rfl (fun r : Fin 32 => (x5 (ix2 r e) : EReal)) _ _

end Cert.ReferenceIdeal.Take
-- ==== Proof.Reference.lean ====
/- The reference's input row, hidden layer and outputs at an index. -/
module
public import proofs.«01_k».proof.Proof.Take
public import proofs.«01_k».proof.Proof.Codes
public import proofs.«01_k».proof.Proof.Gen.ReferenceIdeal.Run
public import Idealize.ShloMosaic.Lib.Claim

@[expose] public section

set_option maxRecDepth 16384

noncomputable section

namespace Cert.ReferenceIdeal.Result

open Idealize.ShloMosaic Idealize.ShloMosaic.TcCoe Idealize.SL.Sem
open Cert.ReferenceIdeal Cert.ReferenceIdeal.Gen Cert.ReferenceIdeal.Read Cert.ReferenceIdeal.Take
open Cert.KernelIdeal.Fold (codes slot codes_own)
open Cert.Seg (dite_seg eq_seg)

variable (x0 : FVec Ideal S16384x10x56 .f32) (x1 : IVec S16384x10x7 32) (x2 : FVec Ideal S400x64 .f32) (x3 : FVec Ideal S8x4 .f32)
  (x4 : FVec Ideal S26x12 .f32) (x5 : FVec Ideal S32x8 .f32)

/-- The first 56 lanes of a frame are its plain features. -/
theorem x_float (i : Fin 16384) (k : Fin 10) (p : Fin 224) (f : Fin 56) (h : (p : ℕ) = f) :
    val_main_v21 (F := Ideal) x0 x1 x2 x3 x4 x5 (ix3 i k p) = x0 (ix3 i k f) := by
  pointwise [val_main_v21]
  rw [dif_pos (by omega)]
  congr 2
  exact Fin.ext h

/-- The row of the table of codes that a lane of a frame reads: the lane's slot and that slot's code. -/
def row (i : Fin 16384) (k : Fin 10) (h : ∀ i k s, (x1 (ix3 i k s)).toNat < 8) (e : Fin 168) : Fin 56 :=
  ⟨8 * (slot e : ℕ) + (x1 (ix3 i k (slot e))).toNat, by have := h i k (slot e); have := (slot e).isLt; omega⟩

/-- The other 168 lanes of a frame are rows of the tables, as the table of codes holds them. -/
theorem x_code (h : ∀ i k s, (x1 (ix3 i k s)).toNat < 8) (i : Fin 16384) (k : Fin 10) (p : Fin 224) (e : Fin 168)
    (hp : (p : ℕ) = 56 + e) :
    val_main_v21 (F := Ideal) x0 x1 x2 x3 x4 x5 (ix3 i k p) = codes x2 x3 x4 x5 (row x1 i k h e) e := by
  have he : (e : ℕ) < 168 := e.isLt
  rw [codes_own x2 x3 x4 x5 (fun s => (x1 (ix3 i k s)).toNat) (h i k) (row x1 i k h e) e rfl]
  pointwise [val_main_v21]
  rw [dif_neg (by omega)]
  simp only [take0 x1 x2 h, take1 x1 x3 h, take2 x1 x4 h, take3 x1 x2 h, take4 x1 x3 h, take5 x1 x4 h, take6 x1 x5 h]
  have hq : (p : ℕ) - 56 = e := by omega
  rw [← hq]
  iterate 6 refine dite_seg (by omega) (fun _ _ => ?_) fun _ => ?_; rfl
  exact eq_seg (by omega) rfl

variable (x6 : FVec Ideal S2240x512 .f32) (x7 : FVec Ideal S512 .f32) (x8 : FVec Ideal S512x256 .f32) (x9 : FVec Ideal S256 .f32)

/-- A lane of an input row is a lane of one of its ten frames. -/
theorem x_lane (i : Fin 16384) (q : Fin 2240) (k : Fin 10) (p : Fin 224) (h : (q : ℕ) = k * 224 + p) :
    val_main_v22 (F := Ideal) x0 x1 x2 x3 x4 x5 (ix2 i q) = val_main_v21 (F := Ideal) x0 x1 x2 x3 x4 x5 (ix3 i k p) := by
  pointwise [val_main_v22]
  congr 1
  funext a
  have hk : (q : ℕ) / 224 = k := by omega
  have hp : (q : ℕ) % 224 = p := by omega
  match a with
  | ⟨0, _⟩ => rfl
  | ⟨1, _⟩ => exact Fin.ext hk
  | ⟨2, _⟩ => exact Fin.ext hp

/-- The first layer before its bias: the input row times the weights. -/
def first (i : Fin 16384) (n : Fin 512) : EReal :=
  ∑ q : Fin 2240, val_main_v22 (F := Ideal) x0 x1 x2 x3 x4 x5 (ix2 i q) * x6 (ix2 q n)

/-- The second hidden layer. -/
theorem hidden (i : Fin 16384) (k : Fin 256) :
    (val_main_v32 (F := Ideal) x0 x1 x2 x3 x4 x5 x6 x7 x8 x9 : FVec Ideal S16384x256 .f32) (ix2 i k)
      = Cert.KernelIdeal.Mlp.hid (first x0 x1 x2 x3 x4 x5 x6 i) (fun n => x7 (ix1 n)) x8 (fun n => x9 (ix1 n)) k := by
  pointwise [val_main_v32, val_main_v31, val_main_v30, val_main_v29, val_main_v28, val_main_v27, val_main_v26, val_main_v25,
    val_main_v24, val_main_v23, val_main_call7_v0, val_main_call8_v0, val_main_call7_cst, val_main_call8_cst]
  rfl

/-- A head over the second hidden layer: its product with the head's weights, plus the head's bias. -/
def head {N : ℕ} (w : FVec Ideal ⟨2, ![256, N]⟩ .f32) (b : FVec Ideal ⟨1, ![N]⟩ .f32) (i : Fin 16384) (j : Fin N) : EReal :=
  ∑ k : Fin 256, Cert.KernelIdeal.Mlp.hid (first x0 x1 x2 x3 x4 x5 x6 i) (fun n => x7 (ix1 n)) x8 (fun n => x9 (ix1 n)) k
    * w (ix2 k j) + b (ix1 j)

/-- Result 1 is a head. -/
theorem result1 (w : FVec Ideal S256x8 .f32) (b : FVec Ideal S8 .f32) (i : Fin 16384) (j : Fin 8) :
    (val_main_v36 (F := Ideal) x0 x1 x2 x3 x4 x5 x6 x7 x8 x9 w b : FVec Ideal S16384x8 .f32) (ix2 i j)
      = head x0 x1 x2 x3 x4 x5 x6 x7 x8 x9 w b i j := by
  pointwise [val_main_v36, val_main_v35, val_main_v34, val_main_v33, hidden, head]

/-- Result 2 is a head. -/
theorem result2 (w : FVec Ideal S256x6 .f32) (b : FVec Ideal S6 .f32) (i : Fin 16384) (j : Fin 6) :
    (val_main_v40 (F := Ideal) x0 x1 x2 x3 x4 x5 x6 x7 x8 x9 w b : FVec Ideal S16384x6 .f32) (ix2 i j)
      = head x0 x1 x2 x3 x4 x5 x6 x7 x8 x9 w b i j := by
  pointwise [val_main_v40, val_main_v39, val_main_v38, val_main_v37, hidden, head]

/-- Result 3 is a head. -/
theorem result3 (w : FVec Ideal S256x400 .f32) (b : FVec Ideal S400 .f32) (i : Fin 16384) (j : Fin 400) :
    (val_main_v44 (F := Ideal) x0 x1 x2 x3 x4 x5 x6 x7 x8 x9 w b : FVec Ideal S16384x400 .f32) (ix2 i j)
      = head x0 x1 x2 x3 x4 x5 x6 x7 x8 x9 w b i j := by
  pointwise [val_main_v44, val_main_v43, val_main_v42, val_main_v41, hidden, head]

/-- Result 4 is a head. -/
theorem result4 (w : FVec Ideal S256x400 .f32) (b : FVec Ideal S400 .f32) (i : Fin 16384) (j : Fin 400) :
    (val_main_v48 (F := Ideal) x0 x1 x2 x3 x4 x5 x6 x7 x8 x9 w b : FVec Ideal S16384x400 .f32) (ix2 i j)
      = head x0 x1 x2 x3 x4 x5 x6 x7 x8 x9 w b i j := by
  pointwise [val_main_v48, val_main_v47, val_main_v46, val_main_v45, hidden, head]

/-- Result 5 is a head. -/
theorem result5 (w : FVec Ideal S256x8 .f32) (b : FVec Ideal S8 .f32) (i : Fin 16384) (j : Fin 8) :
    (val_main_v52 (F := Ideal) x0 x1 x2 x3 x4 x5 x6 x7 x8 x9 w b : FVec Ideal S16384x8 .f32) (ix2 i j)
      = head x0 x1 x2 x3 x4 x5 x6 x7 x8 x9 w b i j := by
  pointwise [val_main_v52, val_main_v51, val_main_v50, val_main_v49, hidden, head]

/-- Result 6 is a head. -/
theorem result6 (w : FVec Ideal S256x8 .f32) (b : FVec Ideal S8 .f32) (i : Fin 16384) (j : Fin 8) :
    (val_main_v56 (F := Ideal) x0 x1 x2 x3 x4 x5 x6 x7 x8 x9 w b : FVec Ideal S16384x8 .f32) (ix2 i j)
      = head x0 x1 x2 x3 x4 x5 x6 x7 x8 x9 w b i j := by
  pointwise [val_main_v56, val_main_v55, val_main_v54, val_main_v53, hidden, head]

variable (m : (ℓ : Loc nD τ sig) → Buf (Elt Ideal) ℓ) (ρ : Dev nD → PrngReg)

/-- The reference runs: its results are the named functions of its arguments, and its arguments end unchanged. -/
theorem run : θ_run defs (onTc (τ := τ) (main (F := Ideal))) ⟨m, fun _ => 0, ρ⟩ (fun r => ∀ c : Dev nD,
    r.2.mem ((c.tc : Thread nD τ).loc main_v36) = val_main_v36 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_v40) = val_main_v40 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg12)) (m ((c.tc : Thread nD τ).loc main_arg13))
      ∧ r.2.mem ((c.tc : Thread nD τ).loc main_v44) = val_main_v44 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg14)) (m ((c.tc : Thread nD τ).loc main_arg15))
      ∧ r.2.mem ((c.tc : Thread nD τ).loc main_v48) = val_main_v48 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg16)) (m ((c.tc : Thread nD τ).loc main_arg17))
      ∧ r.2.mem ((c.tc : Thread nD τ).loc main_v52) = val_main_v52 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg18)) (m ((c.tc : Thread nD τ).loc main_arg19))
      ∧ r.2.mem ((c.tc : Thread nD τ).loc main_v56) = val_main_v56 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg20)) (m ((c.tc : Thread nD τ).loc main_arg21))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) := by
  refine θ_run_mono (Cert.ReferenceIdeal.Value.run m ρ) fun r h c => ?_
  obtain ⟨h0, h1, h2, h3, h4, h5, h⟩ := h c
  exact ⟨h0.trans (val_main_v36_eq (StableHlo.launchContents m c)),
    h1.trans (val_main_v40_eq (StableHlo.launchContents m c)),
    h2.trans (val_main_v44_eq (StableHlo.launchContents m c)),
    h3.trans (val_main_v48_eq (StableHlo.launchContents m c)),
    h4.trans (val_main_v52_eq (StableHlo.launchContents m c)),
    h5.trans (val_main_v56_eq (StableHlo.launchContents m c)), h⟩

end Cert.ReferenceIdeal.Result
-- ==== Proof.Agree.lean ====
/- The idealized kernel's results are the reference's functions of the same arguments. -/
module
public import proofs.«01_k».proof.Proof.Host
public import proofs.«01_k».proof.Proof.Equation
public import proofs.«01_k».proof.Proof.Reference
public import proofs.«01_k».proof.Proof.Results
public import proofs.«01_k».proof.Defs
public import Idealize.ShloMosaic.Lib.Claim

@[expose] public section

set_option maxRecDepth 16384

noncomputable section

namespace Cert.KernelIdeal.Agree

open Idealize.ShloMosaic Idealize.ShloMosaic.TcCoe Idealize.SL.Sem
open Cert.KernelIdeal Cert.KernelIdeal.Gen Cert.KernelIdeal.Mlp Cert.KernelIdeal.Fold
open Cert.Seg (seg seg_here seg_past)

/-- The shape relation that the precondition states. -/
theorem preFacts : Cert.Pre_codes_below_8.Facts := ⟨by decide⟩

/-- A word that passes the precondition's two signed comparisons is below eight. -/
theorem word_below (w : BitVec 32) (h : IntOp.andi (IntOp.cmpi .sge w 0#32) (IntOp.cmpi .slt w 8#32) = 1#1) : w.toNat < 8 := by
  have h0 : (0#32).sle w = true := by
    by_contra h0
    rw [Bool.not_eq_true] at h0
    have : IntOp.cmpi .sge w 0#32 = 0#1 := by simp [IntOp.cmpi, h0]
    rw [this] at h
    simp [IntOp.andi] at h
  have h1 : w.slt 8#32 = true := by
    by_contra h1
    rw [Bool.not_eq_true] at h1
    have : IntOp.cmpi .slt w 8#32 = 0#1 := by simp [IntOp.cmpi, h1]
    rw [this] at h
    simp [IntOp.andi] at h
  rw [BitVec.sle_iff_toInt_le] at h0
  rw [BitVec.slt_iff_toInt_lt] at h1
  have e0 : (0#32 : BitVec 32).toInt = 0 := by decide
  have e8 : (8#32 : BitVec 32).toInt = 8 := by decide
  rw [e0] at h0
  rw [e8] at h1
  rw [BitVec.toInt_eq_toNat_cond] at h0 h1
  split_ifs at h0 h1 <;> omega

variable (m : (ℓ : Loc nD τ sig) → Buf (Elt Ideal) ℓ) (ρ : Dev nD → PrngReg)

/-- Under the precondition every code is below eight. -/
theorem small (h : Cert.Pre_KernelIdeal_codes_below_8 (hPre_codes_below_8 := preFacts) m) (c : Dev nD) (i : Fin 16384) (k : Fin 10) (s : Fin 7) :
    ((m ((c.tc : Thread nD τ).loc main_arg1) : IVec S16384x10x7 32) (ix3 i k s)).toNat < 8 :=
  word_below _ (congrFun (h c) (ix3 i k s))

/-- The second hidden layer of the kernel is the reference's. -/
theorem hidden (c : Dev nD) (h : ∀ i k s, ((m ((c.tc : Thread nD τ).loc main_arg1) : IVec S16384x10x7 32) (ix3 i k s)).toNat < 8)
    (i : Fin 16384) (k : Fin 256) : hiddenOf (V13 m ρ) c i k
      = hid (Cert.ReferenceIdeal.Result.first (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) i)
          (fun n => (m ((c.tc : Thread nD τ).loc main_arg7) : FVec Ideal S512 .f32) (ix1 n)) (m ((c.tc : Thread nD τ).loc main_arg8))
          (fun n => (m ((c.tc : Thread nD τ).loc main_arg9) : FVec Ideal S256 .f32) (ix1 n)) k := by
  have hp : pre1 (V13 m ρ c main_v0) (V13 m ρ c main_v1) (V13 m ρ c main_v18) (V13 m ρ c main_v19) i
      = Cert.ReferenceIdeal.Result.first (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) i := by
    funext n
    rw [Host.table m ρ c]
    exact Equation.first_layer _ _ _ _ _ _ _ _ (Host.spread m ρ c) i n
      (fun k p => (m ((c.tc : Thread nD τ).loc main_arg0) : FVec Ideal S16384x10x56 .f32) (ix3 i k p))
      (fun k s => (m ((c.tc : Thread nD τ).loc main_arg1) : IVec S16384x10x7 32) (ix3 i k s)) (fun k s => h i k s)
      (Host.feats m ρ c i) (Host.slots m ρ c i) _
      (fun k p => (Cert.ReferenceIdeal.Result.x_lane _ _ _ _ _ _ i _ k ⟨(p : ℕ), by omega⟩ rfl).trans
        (Cert.ReferenceIdeal.Result.x_float _ _ _ _ _ _ i k _ p rfl))
      (fun k e => (Cert.ReferenceIdeal.Result.x_lane _ _ _ _ _ _ i _ k ⟨56 + (e : ℕ), by omega⟩ rfl).trans
        (Cert.ReferenceIdeal.Result.x_code _ _ _ _ _ _ h i k _ e rfl))
  have hb : (fun n : Fin 512 => (V13 m ρ c main_v23 : FVec Ideal S1x1598 .f32) (ix2 (0 : Fin 1) ⟨(n : ℕ), by omega⟩))
      = fun n => (m ((c.tc : Thread nD τ).loc main_arg7) : FVec Ideal S512 .f32) (ix1 n) := by
    funext n
    exact (Host.biases m ρ c _).trans (seg_here _ _ n)
  have hb' : (fun n : Fin 256 => (V13 m ρ c main_v23 : FVec Ideal S1x1598 .f32) (ix2 (0 : Fin 1) ⟨512 + (n : ℕ), by omega⟩))
      = fun n => (m ((c.tc : Thread nD τ).loc main_arg9) : FVec Ideal S256 .f32) (ix1 n) := by
    funext n
    exact (Host.biases m ρ c _).trans ((seg_past _ _ _).trans (seg_here _ _ n))
  have hu : (V13 m ρ c main_v24 : FVec Ideal S512x256 .bf16) = (m ((c.tc : Thread nD τ).loc main_arg8) : FVec Ideal S512x256 .f32) := by
    funext y
    idx_vars y
    exact (Host.mats m ρ c).1 y0 y1
  show hid (pre1 _ _ _ _ i) (fun n : Fin 512 => (V13 m ρ c main_v23 : FVec Ideal S1x1598 .f32) (ix2 (0 : Fin 1) ⟨(n : ℕ), by omega⟩)) (V13 m ρ c main_v24)
    (fun n : Fin 256 => (V13 m ρ c main_v23 : FVec Ideal S1x1598 .f32) (ix2 (0 : Fin 1) ⟨512 + (n : ℕ), by omega⟩)) k = _
  rw [hp, hb, hb', hu]

/-- A head of the kernel, whose weights and bias are those of arguments, is the reference's head. -/
theorem head (c : Dev nD) (h : ∀ i k s, ((m ((c.tc : Thread nD τ).loc main_arg1) : IVec S16384x10x7 32) (ix3 i k s)).toNat < 8)
    {N : ℕ} (w : FVec Ideal ⟨2, ![256, N]⟩ .f32) (b : FVec Ideal ⟨1, ![N]⟩ .f32) (i : Fin 16384) (j : Fin N)
    (u : Fin 256 → EReal) (v : EReal) (hu : ∀ k, u k = w (ix2 k j)) (hv : v = b (ix1 j)) :
    ∑ k : Fin 256, hiddenOf (V13 m ρ) c i k * u k + v = Cert.ReferenceIdeal.Result.head (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) w b i j :=
  congrArg₂ (· + ·) (Finset.sum_congr rfl fun k _ => congrArg₂ (· * ·) (hidden m ρ c h i k) (hu k)) hv

/-- The packed biases behind those of the two layers. -/
theorem tail (c : Dev nD) (p : Fin 1598) (q : ℕ) (hp : (p : ℕ) = 512 + (256 + q)) {x : EReal}
    (hx : (seg 8 (fun j => (m ((c.tc : Thread nD τ).loc main_arg11) : FVec Ideal S8 .f32) (ix1 j)) <|
        seg 6 (fun j => (m ((c.tc : Thread nD τ).loc main_arg13) : FVec Ideal S6 .f32) (ix1 j)) <|
        seg 8 (fun j => (m ((c.tc : Thread nD τ).loc main_arg19) : FVec Ideal S8 .f32) (ix1 j)) <|
        seg 8 (fun j => (m ((c.tc : Thread nD τ).loc main_arg21) : FVec Ideal S8 .f32) (ix1 j)) <|
        seg 400 (fun j => (m ((c.tc : Thread nD τ).loc main_arg15) : FVec Ideal S400 .f32) (ix1 j)) <|
        seg 400 (fun j => (m ((c.tc : Thread nD τ).loc main_arg17) : FVec Ideal S400 .f32) (ix1 j)) <|
        fun _ => 0) q = x) :
    (V13 m ρ c main_v23 : FVec Ideal S1x1598 .f32) (ix2 (0 : Fin 1) p) = x := by
  rw [Host.biases, hp, seg_past, seg_past]
  exact hx

/-- A column of the kernel's third array is a column of a head, when its weights and bias are. -/
theorem narrow (c : Dev nD) (h : ∀ i k s, ((m ((c.tc : Thread nD τ).loc main_arg1) : IVec S16384x10x7 32) (ix3 i k s)).toNat < 8)
    {N : ℕ} (w : FVec Ideal ⟨2, ![256, N]⟩ .f32) (b : FVec Ideal ⟨1, ![N]⟩ .f32) (i : Fin 16384) (j : Fin N) (q : Fin 30)
    (hw : ∀ k, (V13 m ρ c main_v21 : FVec Ideal S256x30 .bf16) (ix2 k q) = w (ix2 k j))
    (hb : (V13 m ρ c main_v23 : FVec Ideal S1x1598 .f32) (ix2 (0 : Fin 1) ⟨768 + (q : ℕ), by omega⟩) = b (ix1 j)) :
    out2 (V13 m ρ) c (ix2 i q) = Cert.ReferenceIdeal.Result.head (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) w b i j :=
  head m ρ c h w b i j (fun k => (V13 m ρ c main_v21 : FVec Ideal S256x30 .bf16) (ix2 k q)) _ hw hb

/-- Result 1 of the kernel is result 1 of the reference. -/
theorem result1 (c : Dev nD) (h : ∀ i k s, ((m ((c.tc : Thread nD τ).loc main_arg1) : IVec S16384x10x7 32) (ix3 i k s)).toNat < 8) :
    (W15 m ρ c (Proc.devRef .tc main_v28) : FVec Ideal S16384x8 .f32)
      = Cert.ReferenceIdeal.Read.val_main_v36 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  funext y
  idx_vars y
  refine Eq.trans ?_ (Cert.ReferenceIdeal.Result.result1 _ _ _ _ _ _ _ _ _ _ _ _ y0 y1).symm
  exact ((Host.cuts m ρ c y0).1 y1).trans (narrow m ρ c h _ _ y0 y1 _
    (fun k => (Host.packed m ρ c k _).trans (seg_here _ _ y1))
    (tail m ρ c _ _ (by simp only [] <;> omega) (seg_here _ _ y1)))

/-- Result 2 of the kernel is result 2 of the reference. -/
theorem result2 (c : Dev nD) (h : ∀ i k s, ((m ((c.tc : Thread nD τ).loc main_arg1) : IVec S16384x10x7 32) (ix3 i k s)).toNat < 8) :
    (W15 m ρ c (Proc.devRef .tc main_v29) : FVec Ideal S16384x6 .f32)
      = Cert.ReferenceIdeal.Read.val_main_v40 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg12)) (m ((c.tc : Thread nD τ).loc main_arg13)) := by
  funext y
  idx_vars y
  refine Eq.trans ?_ (Cert.ReferenceIdeal.Result.result2 _ _ _ _ _ _ _ _ _ _ _ _ y0 y1).symm
  exact ((Host.cuts m ρ c y0).2.1 y1).trans (narrow m ρ c h _ _ y0 y1 _
    (fun k => (Host.packed m ρ c k _).trans ((seg_past _ _ _).trans (seg_here _ _ y1)))
    (tail m ρ c _ _ (by simp only [] <;> omega) ((seg_past _ _ _).trans (seg_here _ _ y1))))

/-- Result 3 of the kernel is result 3 of the reference. -/
theorem result3 (c : Dev nD) (h : ∀ i k s, ((m ((c.tc : Thread nD τ).loc main_arg1) : IVec S16384x10x7 32) (ix3 i k s)).toNat < 8) :
    (W15 m ρ c (Proc.devRef .tc main_v27_0) : FVec Ideal S16384x400 .f32)
      = Cert.ReferenceIdeal.Read.val_main_v44 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg14)) (m ((c.tc : Thread nD τ).loc main_arg15)) := by
  funext y
  idx_vars y
  refine Eq.trans ?_ (Cert.ReferenceIdeal.Result.result3 _ _ _ _ _ _ _ _ _ _ _ _ y0 y1).symm
  exact (congrFun (Host.wide0 m ρ c) (ix2 y0 y1)).trans (head m ρ c h _ _ y0 y1 _ _ (fun k => (Host.mats m ρ c).2.1 k y1)
    (tail m ρ c _ (8 + (6 + (8 + (8 + (y1 : ℕ))))) (by show 798 + (y1 : ℕ) = _; omega)
      ((seg_past _ _ _).trans ((seg_past _ _ _).trans ((seg_past _ _ _).trans ((seg_past _ _ _).trans (seg_here _ _ y1)))))))

/-- Result 4 of the kernel is result 4 of the reference. -/
theorem result4 (c : Dev nD) (h : ∀ i k s, ((m ((c.tc : Thread nD τ).loc main_arg1) : IVec S16384x10x7 32) (ix3 i k s)).toNat < 8) :
    (W15 m ρ c (Proc.devRef .tc main_v27_1) : FVec Ideal S16384x400 .f32)
      = Cert.ReferenceIdeal.Read.val_main_v48 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg16)) (m ((c.tc : Thread nD τ).loc main_arg17)) := by
  funext y
  idx_vars y
  refine Eq.trans ?_ (Cert.ReferenceIdeal.Result.result4 _ _ _ _ _ _ _ _ _ _ _ _ y0 y1).symm
  exact (congrFun (Host.wide1 m ρ c) (ix2 y0 y1)).trans (head m ρ c h _ _ y0 y1 _ _ (fun k => (Host.mats m ρ c).2.2 k y1)
    (tail m ρ c _ (8 + (6 + (8 + (8 + (400 + (y1 : ℕ)))))) (by show 1198 + (y1 : ℕ) = _; omega)
      ((seg_past _ _ _).trans ((seg_past _ _ _).trans ((seg_past _ _ _).trans ((seg_past _ _ _).trans ((seg_past _ _ _).trans (seg_here _ _ y1))))))))

/-- Result 5 of the kernel is result 5 of the reference. -/
theorem result5 (c : Dev nD) (h : ∀ i k s, ((m ((c.tc : Thread nD τ).loc main_arg1) : IVec S16384x10x7 32) (ix3 i k s)).toNat < 8) :
    (W15 m ρ c (Proc.devRef .tc main_v30) : FVec Ideal S16384x8 .f32)
      = Cert.ReferenceIdeal.Read.val_main_v52 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg18)) (m ((c.tc : Thread nD τ).loc main_arg19)) := by
  funext y
  idx_vars y
  refine Eq.trans ?_ (Cert.ReferenceIdeal.Result.result5 _ _ _ _ _ _ _ _ _ _ _ _ y0 y1).symm
  exact ((Host.cuts m ρ c y0).2.2.1 y1).trans (narrow m ρ c h _ _ y0 y1 _
    (fun k => (Host.packed m ρ c k _).trans ((seg_past _ _ _).trans ((seg_past _ _ _).trans (seg_here _ _ y1))))
    (tail m ρ c _ _ (by simp only [] <;> omega) ((seg_past _ _ _).trans ((seg_past _ _ _).trans (seg_here _ _ y1)))))

/-- Result 6 of the kernel is result 6 of the reference. -/
theorem result6 (c : Dev nD) (h : ∀ i k s, ((m ((c.tc : Thread nD τ).loc main_arg1) : IVec S16384x10x7 32) (ix3 i k s)).toNat < 8) :
    (W15 m ρ c (Proc.devRef .tc main_v31) : FVec Ideal S16384x8 .f32)
      = Cert.ReferenceIdeal.Read.val_main_v56 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg20)) (m ((c.tc : Thread nD τ).loc main_arg21)) := by
  funext y
  idx_vars y
  refine Eq.trans ?_ (Cert.ReferenceIdeal.Result.result6 _ _ _ _ _ _ _ _ _ _ _ _ y0 y1).symm
  exact ((Host.cuts m ρ c y0).2.2.2 y1).trans (narrow m ρ c h _ _ y0 y1 _
    (fun k => (Host.packed m ρ c k _).trans ((seg_past _ _ _).trans ((seg_past _ _ _).trans ((seg_past _ _ _).trans (seg_here _ _ y1)))))
    (tail m ρ c _ _ (by simp only [] <;> omega) ((seg_past _ _ _).trans ((seg_past _ _ _).trans ((seg_past _ _ _).trans (seg_here _ _ y1))))))

/-- The idealized kernel runs when every code is below eight: its results are the reference's functions of its
    arguments, and its arguments end unchanged. -/
theorem run (h : ∀ (c : Dev nD) (i : Fin 16384) (k : Fin 10) (s : Fin 7),
      ((m ((c.tc : Thread nD τ).loc main_arg1) : IVec S16384x10x7 32) (ix3 i k s)).toNat < 8) :
    θ_run defs (onTc (τ := τ) (main (F := Ideal))) ⟨m, fun _ => 0, ρ⟩ (fun r => ∀ c : Dev nD,
    r.2.mem ((c.tc : Thread nD τ).loc main_v28)
        = Cert.ReferenceIdeal.Read.val_main_v36 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_v29)
        = Cert.ReferenceIdeal.Read.val_main_v40 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg12)) (m ((c.tc : Thread nD τ).loc main_arg13))
      ∧ r.2.mem ((c.tc : Thread nD τ).loc main_v27_0)
        = Cert.ReferenceIdeal.Read.val_main_v44 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg14)) (m ((c.tc : Thread nD τ).loc main_arg15))
      ∧ r.2.mem ((c.tc : Thread nD τ).loc main_v27_1)
        = Cert.ReferenceIdeal.Read.val_main_v48 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg16)) (m ((c.tc : Thread nD τ).loc main_arg17))
      ∧ r.2.mem ((c.tc : Thread nD τ).loc main_v30)
        = Cert.ReferenceIdeal.Read.val_main_v52 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg18)) (m ((c.tc : Thread nD τ).loc main_arg19))
      ∧ r.2.mem ((c.tc : Thread nD τ).loc main_v31)
        = Cert.ReferenceIdeal.Read.val_main_v56 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg20)) (m ((c.tc : Thread nD τ).loc main_arg21))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) := by
  refine θ_run_mono (Results.run m ρ) fun r h' c => ?_
  obtain ⟨h0, h1, h2, h3, h4, h5, h'⟩ := h' c
  exact ⟨h0.trans (result1 m ρ c (h c)),
    h1.trans (result2 m ρ c (h c)),
    h2.trans (result3 m ρ c (h c)),
    h3.trans (result4 m ρ c (h c)),
    h4.trans (result5 m ρ c (h c)),
    h5.trans (result6 m ρ c (h c)), h'⟩

end Cert.KernelIdeal.Agree
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import Idealize.ShloMosaic.Adequacy
public import Idealize.ShloMosaic.Init
public import Idealize.ShloMosaic.Lib.Claim
public import proofs.«01_k».proof.Proof.Results
public import proofs.«01_k».proof.Proof.Agree

@[expose] public section

set_option maxRecDepth 16384

noncomputable section

namespace Cert.Proof

open Idealize.ShloMosaic Idealize.SL.Sem

/-- Under the precondition the idealized kernel and the reference end with equal results. -/
theorem results_equal : Cert.algebraic_KernelIdeal_ReferenceIdeal_pre_codes_below_8 (hKernelIdeal := Cert.KernelIdeal.Gen.facts)
    (hReferenceIdeal := Cert.ReferenceIdeal.Gen.facts) (hPre_codes_below_8 := Cert.KernelIdeal.Agree.preFacts) := by
  intro m g m' g' hpre hagree
  refine ⟨_, _, _, _, _, _, Cert.KernelIdeal.Agree.run m g (Cert.KernelIdeal.Agree.small m hpre),
    θ_run_mono (Cert.ReferenceIdeal.Result.run m' g') fun r h c => ?_⟩
  obtain ⟨e0, e1, e2, e3, e4, e5, e6, e7, e8, e9, e10, e11, e12, e13, e14, e15, e16, e17, e18, e19, e20, e21⟩ := hagree c
  obtain ⟨h0, h1, h2, h3, h4, h5, h⟩ := h c
  refine ⟨?_, ?_, ?_, ?_, ?_, ?_, h⟩
  · refine h0.trans ?_
    rw [e0, e1, e2, e3, e4, e5, e6, e7, e8, e9, e10, e11]
  · refine h1.trans ?_
    rw [e0, e1, e2, e3, e4, e5, e6, e7, e8, e9, e12, e13]
  · refine h2.trans ?_
    rw [e0, e1, e2, e3, e4, e5, e6, e7, e8, e9, e14, e15]
  · refine h3.trans ?_
    rw [e0, e1, e2, e3, e4, e5, e6, e7, e8, e9, e16, e17]
  · refine h4.trans ?_
    rw [e0, e1, e2, e3, e4, e5, e6, e7, e8, e9, e18, e19]
  · refine h5.trans ?_
    rw [e0, e1, e2, e3, e4, e5, e6, e7, e8, e9, e20, e21]

/-- The reference runs, its arguments end unchanged, and it declares no semaphore, so every counter reads zero. -/
theorem reference_frame : Cert.quiescent_ReferenceIdeal (hReferenceIdeal := Cert.ReferenceIdeal.Gen.facts) := by
  intro m ρ _
  refine θ_run_mono (Cert.ReferenceIdeal.Value.run m ρ) fun r h => ⟨fun c => ?_, sem_eq_zero_of_no_sems (by decide) r.2⟩
  obtain ⟨-, -, -, -, -, -, h⟩ := h c
  exact h

/-- Everything that is claimed. -/
theorem claim : Cert.Claim := by
  refine ⟨Cert.Kernel.Gen.facts, Cert.KernelIdeal.Gen.facts, Cert.ReferenceIdeal.Gen.facts, Cert.KernelIdeal.Agree.preFacts,
    ?_, ?_, ?_, ?_, ?_, trivial, results_equal⟩
  · exact fun m ρ _ => Cert.Kernel.Gen.frame m ρ
  · exact fun m ρ _ => Cert.KernelIdeal.Gen.frame m ρ
  · exact fun m ρ _ => Cert.KernelIdeal.Gen.frame m ρ
  · exact fun m ρ _ => reference_frame m ρ trivial
  · exact fun m ρ _ => reference_frame m ρ trivial

end Cert.Proof

end
